-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x8192 : Shape := ⟨2, ![4096, 8192]⟩
abbrev S512x8192 : Shape := ⟨2, ![512, 8192]⟩
abbrev S512x4096 : Shape := ⟨2, ![512, 4096]⟩
abbrev S2x2048x1024 : Shape := ⟨3, ![2, 2048, 1024]⟩
abbrev S7 : Shape := ⟨1, ![7]⟩
abbrev S2 : Shape := ⟨1, ![2]⟩
abbrev S_ : Shape := ⟨0, ![]⟩
abbrev S512x512 : Shape := ⟨2, ![512, 512]⟩
abbrev S1 : Shape := ⟨1, ![1]⟩
abbrev S1x512x1024 : Shape := ⟨3, ![1, 512, 1024]⟩
abbrev S512x1024 : Shape := ⟨2, ![512, 1024]⟩
abbrev S1x1536x1024 : Shape := ⟨3, ![1, 1536, 1024]⟩
abbrev S1536x1024 : Shape := ⟨2, ![1536, 1024]⟩
abbrev S512x1536 : Shape := ⟨2, ![512, 1536]⟩
abbrev S1x2048x1024 : Shape := ⟨3, ![1, 2048, 1024]⟩
abbrev S2048x1024 : Shape := ⟨2, ![2048, 1024]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x8192, .f32⟩
  | .hbm, ⟨2, _⟩ => ⟨S512x8192, .bf16⟩
  | .local _ .vmem, ⟨0, _⟩ => ⟨S4096x512, .f32⟩
  | .local _ .vmem, ⟨1, _⟩ => ⟨S512x8192, .bf16⟩
  | .local _ .vmem, ⟨2, _⟩ => ⟨S4096x512, .bf16⟩
  | .local _ .vmem, ⟨3, _⟩ => ⟨S512x4096, .bf16⟩
  | .local _ .vmem, ⟨4, _⟩ => ⟨S2x2048x1024, .f32⟩
  | .local _ .vmem, ⟨5, _⟩ => ⟨S2x2048x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v101 : BitVec 32 := Scalar.muli v2 c512_i32
  let v102 : Index := Scalar.indexCast v101
  let c0_67 : Index := 0#32
  ![v102.toNat, 0]
def k0_off2 (d0 : Dev nD) (c1_i32_70 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v107 : BitVec 32 := Scalar.addi v2 c1_i32_70
  let c8_i32_71 : BitVec 32 := 8#32
  let c0_i32_72 : BitVec 32 := 0#32
  let v108 : BitVec 1 := Scalar.cmpi .eq c8_i32_71 c0_i32_72
  let c1_i32_73 : BitVec 32 := 1#32
  let v109 : BitVec 32 := Scalar.select v108 c1_i32_73 c8_i32_71
  let v110 : BitVec 32 := Scalar.remsi v107 v109
  let c0_i32_75 : BitVec 32 := 0#32
  let v112 : BitVec 1 := Scalar.cmpi .slt v110 c0_i32_75
  let c0_i32_76 : BitVec 32 := 0#32
  let v113 : BitVec 1 := Scalar.cmpi .slt v109 c0_i32_76
  let v114 : BitVec 1 := Scalar.xori v112 v113
  let c0_i32_74 : BitVec 32 := 0#32
  let v111 : BitVec 1 := Scalar.cmpi .ne v110 c0_i32_74
  let v115 : BitVec 1 := Scalar.andi v114 v111
  let v116 : BitVec 32 := Scalar.addi v110 v109
  let v117 : BitVec 32 := Scalar.select v115 v116 v110
  let c512_i32_77 : BitVec 32 := 512#32
  let v118 : BitVec 32 := Scalar.muli v117 c512_i32_77
  let c0_i32_132 : BitVec 32 := 0#32
  ![v118.toNat, 0]
def k0_dev8 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_70 : BitVec 32 := 1#32
  let v107 : BitVec 32 := Scalar.addi v2 c1_i32_70
  let c8_i32_71 : BitVec 32 := 8#32
  let c0_i32_72 : BitVec 32 := 0#32
  let v108 : BitVec 1 := Scalar.cmpi .eq c8_i32_71 c0_i32_72
  let c1_i32_73 : BitVec 32 := 1#32
  let v109 : BitVec 32 := Scalar.select v108 c1_i32_73 c8_i32_71
  let v110 : BitVec 32 := Scalar.remsi v107 v109
  let c0_i32_75 : BitVec 32 := 0#32
  let v112 : BitVec 1 := Scalar.cmpi .slt v110 c0_i32_75
  let c0_i32_76 : BitVec 32 := 0#32
  let v113 : BitVec 1 := Scalar.cmpi .slt v109 c0_i32_76
  let v114 : BitVec 1 := Scalar.xori v112 v113
  let c0_i32_74 : BitVec 32 := 0#32
  let v111 : BitVec 1 := Scalar.cmpi .ne v110 c0_i32_74
  let v115 : BitVec 1 := Scalar.andi v114 v111
  let v116 : BitVec 32 := Scalar.addi v110 v109
  let v117 : BitVec 32 := Scalar.select v115 v116 v110
  let c1_i32_128 : BitVec 32 := 1#32
  let v191 : BitVec 32 := Scalar.muli v117 c1_i32_128
  let v192 : BitVec 32 := Scalar.addi c0_i32_129 v191
  v192.toNat
def k0_dev9 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_78 : BitVec 32 := 2#32
  let v119 : BitVec 32 := Scalar.addi v2 c2_i32_78
  let c8_i32_79 : BitVec 32 := 8#32
  let c0_i32_80 : BitVec 32 := 0#32
  let v120 : BitVec 1 := Scalar.cmpi .eq c8_i32_79 c0_i32_80
  let c1_i32_81 : BitVec 32 := 1#32
  let v121 : BitVec 32 := Scalar.select v120 c1_i32_81 c8_i32_79
  let v122 : BitVec 32 := Scalar.remsi v119 v121
  let c0_i32_83 : BitVec 32 := 0#32
  let v124 : BitVec 1 := Scalar.cmpi .slt v122 c0_i32_83
  let c0_i32_84 : BitVec 32 := 0#32
  let v125 : BitVec 1 := Scalar.cmpi .slt v121 c0_i32_84
  let v126 : BitVec 1 := Scalar.xori v124 v125
  let c0_i32_82 : BitVec 32 := 0#32
  let v123 : BitVec 1 := Scalar.cmpi .ne v122 c0_i32_82
  let v127 : BitVec 1 := Scalar.andi v126 v123
  let v128 : BitVec 32 := Scalar.addi v122 v121
  let v129 : BitVec 32 := Scalar.select v127 v128 v122
  let c1_i32_135 : BitVec 32 := 1#32
  let v199 : BitVec 32 := Scalar.muli v129 c1_i32_135
  let v200 : BitVec 32 := Scalar.addi c0_i32_136 v199
  v200.toNat
def k0_dev10 (d0 : Dev nD) : Nat :=
  let c0_i32_142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_86 : BitVec 32 := 3#32
  let v131 : BitVec 32 := Scalar.addi v2 c3_i32_86
  let c8_i32_87 : BitVec 32 := 8#32
  let c0_i32_88 : BitVec 32 := 0#32
  let v132 : BitVec 1 := Scalar.cmpi .eq c8_i32_87 c0_i32_88
  let c1_i32_89 : BitVec 32 := 1#32
  let v133 : BitVec 32 := Scalar.select v132 c1_i32_89 c8_i32_87
  let v134 : BitVec 32 := Scalar.remsi v131 v133
  let c0_i32_91 : BitVec 32 := 0#32
  let v136 : BitVec 1 := Scalar.cmpi .slt v134 c0_i32_91
  let c0_i32_92 : BitVec 32 := 0#32
  let v137 : BitVec 1 := Scalar.cmpi .slt v133 c0_i32_92
  let v138 : BitVec 1 := Scalar.xori v136 v137
  let c0_i32_90 : BitVec 32 := 0#32
  let v135 : BitVec 1 := Scalar.cmpi .ne v134 c0_i32_90
  let v139 : BitVec 1 := Scalar.andi v138 v135
  let v140 : BitVec 32 := Scalar.addi v134 v133
  let v141 : BitVec 32 := Scalar.select v139 v140 v134
  let c1_i32_141 : BitVec 32 := 1#32
  let v207 : BitVec 32 := Scalar.muli v141 c1_i32_141
  let v208 : BitVec 32 := Scalar.addi c0_i32_142 v207
  v208.toNat
def k0_off3 (d0 : Dev nD) (c8_i32_145 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v215 : BitVec 32 := Scalar.addi v2 c8_i32_145
  let c8_i32_146 : BitVec 32 := 8#32
  let c0_i32_147 : BitVec 32 := 0#32
  let v216 : BitVec 1 := Scalar.cmpi .eq c8_i32_146 c0_i32_147
  let c1_i32_148 : BitVec 32 := 1#32
  let v217 : BitVec 32 := Scalar.select v216 c1_i32_148 c8_i32_146
  let v218 : BitVec 32 := Scalar.remsi v215 v217
  let c0_i32_150 : BitVec 32 := 0#32
  let v220 : BitVec 1 := Scalar.cmpi .slt v218 c0_i32_150
  let c0_i32_151 : BitVec 32 := 0#32
  let v221 : BitVec 1 := Scalar.cmpi .slt v217 c0_i32_151
  let v222 : BitVec 1 := Scalar.xori v220 v221
  let c0_i32_149 : BitVec 32 := 0#32
  let v219 : BitVec 1 := Scalar.cmpi .ne v218 c0_i32_149
  let v223 : BitVec 1 := Scalar.andi v222 v219
  let v224 : BitVec 32 := Scalar.addi v218 v217
  let v225 : BitVec 32 := Scalar.select v223 v224 v218
  let c512_i32_152 : BitVec 32 := 512#32
  let v226 : BitVec 32 := Scalar.muli v225 c512_i32_152
  let c0_i32_157 : BitVec 32 := 0#32
  ![v226.toNat, 0]
def k0_off4 (d0 : Dev nD) (c8_i32_158 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v232 : BitVec 32 := Scalar.addi v2 c8_i32_158
  let c8_i32_159 : BitVec 32 := 8#32
  let c0_i32_160 : BitVec 32 := 0#32
  let v233 : BitVec 1 := Scalar.cmpi .eq c8_i32_159 c0_i32_160
  let c1_i32_161 : BitVec 32 := 1#32
  let v234 : BitVec 32 := Scalar.select v233 c1_i32_161 c8_i32_159
  let v235 : BitVec 32 := Scalar.remsi v232 v234
  let c0_i32_163 : BitVec 32 := 0#32
  let v237 : BitVec 1 := Scalar.cmpi .slt v235 c0_i32_163
  let c0_i32_164 : BitVec 32 := 0#32
  let v238 : BitVec 1 := Scalar.cmpi .slt v234 c0_i32_164
  let v239 : BitVec 1 := Scalar.xori v237 v238
  let c0_i32_162 : BitVec 32 := 0#32
  let v236 : BitVec 1 := Scalar.cmpi .ne v235 c0_i32_162
  let v240 : BitVec 1 := Scalar.andi v239 v236
  let v241 : BitVec 32 := Scalar.addi v235 v234
  let v242 : BitVec 32 := Scalar.select v240 v241 v235
  let c512_i32_165 : BitVec 32 := 512#32
  let v243 : BitVec 32 := Scalar.muli v242 c512_i32_165
  let c1024_i32_170 : BitVec 32 := 1024#32
  ![v243.toNat, 1024]
def k0_off5 (d0 : Dev nD) (c8_i32_182 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v260 : BitVec 32 := Scalar.addi v2 c8_i32_182
  let c8_i32_183 : BitVec 32 := 8#32
  let c0_i32_184 : BitVec 32 := 0#32
  let v261 : BitVec 1 := Scalar.cmpi .eq c8_i32_183 c0_i32_184
  let c1_i32_185 : BitVec 32 := 1#32
  let v262 : BitVec 32 := Scalar.select v261 c1_i32_185 c8_i32_183
  let v263 : BitVec 32 := Scalar.remsi v260 v262
  let c0_i32_187 : BitVec 32 := 0#32
  let v265 : BitVec 1 := Scalar.cmpi .slt v263 c0_i32_187
  let c0_i32_188 : BitVec 32 := 0#32
  let v266 : BitVec 1 := Scalar.cmpi .slt v262 c0_i32_188
  let v267 : BitVec 1 := Scalar.xori v265 v266
  let c0_i32_186 : BitVec 32 := 0#32
  let v264 : BitVec 1 := Scalar.cmpi .ne v263 c0_i32_186
  let v268 : BitVec 1 := Scalar.andi v267 v264
  let v269 : BitVec 32 := Scalar.addi v263 v262
  let v270 : BitVec 32 := Scalar.select v268 v269 v263
  let c512_i32_189 : BitVec 32 := 512#32
  let v271 : BitVec 32 := Scalar.muli v270 c512_i32_189
  let c2048_i32 : BitVec 32 := 2048#32
  ![v271.toNat, 2048]
def k0_off6 (d0 : Dev nD) (c8_i32_204 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v288 : BitVec 32 := Scalar.addi v2 c8_i32_204
  let c8_i32_205 : BitVec 32 := 8#32
  let c0_i32_206 : BitVec 32 := 0#32
  let v289 : BitVec 1 := Scalar.cmpi .eq c8_i32_205 c0_i32_206
  let c1_i32_207 : BitVec 32 := 1#32
  let v290 : BitVec 32 := Scalar.select v289 c1_i32_207 c8_i32_205
  let v291 : BitVec 32 := Scalar.remsi v288 v290
  let c0_i32_209 : BitVec 32 := 0#32
  let v293 : BitVec 1 := Scalar.cmpi .slt v291 c0_i32_209
  let c0_i32_210 : BitVec 32 := 0#32
  let v294 : BitVec 1 := Scalar.cmpi .slt v290 c0_i32_210
  let v295 : BitVec 1 := Scalar.xori v293 v294
  let c0_i32_208 : BitVec 32 := 0#32
  let v292 : BitVec 1 := Scalar.cmpi .ne v291 c0_i32_208
  let v296 : BitVec 1 := Scalar.andi v295 v292
  let v297 : BitVec 32 := Scalar.addi v291 v290
  let v298 : BitVec 32 := Scalar.select v296 v297 v291
  let c512_i32_211 : BitVec 32 := 512#32
  let v299 : BitVec 32 := Scalar.muli v298 c512_i32_211
  let c3072_i32 : BitVec 32 := 3072#32
  ![v299.toNat, 3072]
def k0_off7 (d0 : Dev nD) (c8_i32_234 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v322 : BitVec 32 := Scalar.addi v2 c8_i32_234
  let c8_i32_235 : BitVec 32 := 8#32
  let c0_i32_236 : BitVec 32 := 0#32
  let v323 : BitVec 1 := Scalar.cmpi .eq c8_i32_235 c0_i32_236
  let c1_i32_237 : BitVec 32 := 1#32
  let v324 : BitVec 32 := Scalar.select v323 c1_i32_237 c8_i32_235
  let v325 : BitVec 32 := Scalar.remsi v322 v324
  let c0_i32_239 : BitVec 32 := 0#32
  let v327 : BitVec 1 := Scalar.cmpi .slt v325 c0_i32_239
  let c0_i32_240 : BitVec 32 := 0#32
  let v328 : BitVec 1 := Scalar.cmpi .slt v324 c0_i32_240
  let v329 : BitVec 1 := Scalar.xori v327 v328
  let c0_i32_238 : BitVec 32 := 0#32
  let v326 : BitVec 1 := Scalar.cmpi .ne v325 c0_i32_238
  let v330 : BitVec 1 := Scalar.andi v329 v326
  let v331 : BitVec 32 := Scalar.addi v325 v324
  let v332 : BitVec 32 := Scalar.select v330 v331 v325
  let c512_i32_241 : BitVec 32 := 512#32
  let v333 : BitVec 32 := Scalar.muli v332 c512_i32_241
  let c4096_i32 : BitVec 32 := 4096#32
  ![v333.toNat, 4096]
def k0_off8 (d0 : Dev nD) (c8_i32_264 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v356 : BitVec 32 := Scalar.addi v2 c8_i32_264
  let c8_i32_265 : BitVec 32 := 8#32
  let c0_i32_266 : BitVec 32 := 0#32
  let v357 : BitVec 1 := Scalar.cmpi .eq c8_i32_265 c0_i32_266
  let c1_i32_267 : BitVec 32 := 1#32
  let v358 : BitVec 32 := Scalar.select v357 c1_i32_267 c8_i32_265
  let v359 : BitVec 32 := Scalar.remsi v356 v358
  let c0_i32_269 : BitVec 32 := 0#32
  let v361 : BitVec 1 := Scalar.cmpi .slt v359 c0_i32_269
  let c0_i32_270 : BitVec 32 := 0#32
  let v362 : BitVec 1 := Scalar.cmpi .slt v358 c0_i32_270
  let v363 : BitVec 1 := Scalar.xori v361 v362
  let c0_i32_268 : BitVec 32 := 0#32
  let v360 : BitVec 1 := Scalar.cmpi .ne v359 c0_i32_268
  let v364 : BitVec 1 := Scalar.andi v363 v360
  let v365 : BitVec 32 := Scalar.addi v359 v358
  let v366 : BitVec 32 := Scalar.select v364 v365 v359
  let c512_i32_271 : BitVec 32 := 512#32
  let v367 : BitVec 32 := Scalar.muli v366 c512_i32_271
  let c5120_i32 : BitVec 32 := 5120#32
  ![v367.toNat, 5120]
def k0_off9 (d0 : Dev nD) (c8_i32_294 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v390 : BitVec 32 := Scalar.addi v2 c8_i32_294
  let c8_i32_295 : BitVec 32 := 8#32
  let c0_i32_296 : BitVec 32 := 0#32
  let v391 : BitVec 1 := Scalar.cmpi .eq c8_i32_295 c0_i32_296
  let c1_i32_297 : BitVec 32 := 1#32
  let v392 : BitVec 32 := Scalar.select v391 c1_i32_297 c8_i32_295
  let v393 : BitVec 32 := Scalar.remsi v390 v392
  let c0_i32_299 : BitVec 32 := 0#32
  let v395 : BitVec 1 := Scalar.cmpi .slt v393 c0_i32_299
  let c0_i32_300 : BitVec 32 := 0#32
  let v396 : BitVec 1 := Scalar.cmpi .slt v392 c0_i32_300
  let v397 : BitVec 1 := Scalar.xori v395 v396
  let c0_i32_298 : BitVec 32 := 0#32
  let v394 : BitVec 1 := Scalar.cmpi .ne v393 c0_i32_298
  let v398 : BitVec 1 := Scalar.andi v397 v394
  let v399 : BitVec 32 := Scalar.addi v393 v392
  let v400 : BitVec 32 := Scalar.select v398 v399 v393
  let c512_i32_301 : BitVec 32 := 512#32
  let v401 : BitVec 32 := Scalar.muli v400 c512_i32_301
  let c6144_i32 : BitVec 32 := 6144#32
  ![v401.toNat, 6144]
def k0_dev11 (d0 : Dev nD) : Nat :=
  let c0_i32_334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_94 : BitVec 32 := 4#32
  let v143 : BitVec 32 := Scalar.addi v2 c4_i32_94
  let c8_i32_95 : BitVec 32 := 8#32
  let c0_i32_96 : BitVec 32 := 0#32
  let v144 : BitVec 1 := Scalar.cmpi .eq c8_i32_95 c0_i32_96
  let c1_i32_97 : BitVec 32 := 1#32
  let v145 : BitVec 32 := Scalar.select v144 c1_i32_97 c8_i32_95
  let v146 : BitVec 32 := Scalar.remsi v143 v145
  let c0_i32_99 : BitVec 32 := 0#32
  let v148 : BitVec 1 := Scalar.cmpi .slt v146 c0_i32_99
  let c0_i32_100 : BitVec 32 := 0#32
  let v149 : BitVec 1 := Scalar.cmpi .slt v145 c0_i32_100
  let v150 : BitVec 1 := Scalar.xori v148 v149
  let c0_i32_98 : BitVec 32 := 0#32
  let v147 : BitVec 1 := Scalar.cmpi .ne v146 c0_i32_98
  let v151 : BitVec 1 := Scalar.andi v150 v147
  let v152 : BitVec 32 := Scalar.addi v146 v145
  let v153 : BitVec 32 := Scalar.select v151 v152 v146
  let c1_i32_333 : BitVec 32 := 1#32
  let v425 : BitVec 32 := Scalar.muli v153 c1_i32_333
  let v426 : BitVec 32 := Scalar.addi c0_i32_334 v425
  v426.toNat
def k0_dev12 (d0 : Dev nD) : Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_102 : BitVec 32 := 5#32
  let v155 : BitVec 32 := Scalar.addi v2 c5_i32_102
  let c8_i32_103 : BitVec 32 := 8#32
  let c0_i32_104 : BitVec 32 := 0#32
  let v156 : BitVec 1 := Scalar.cmpi .eq c8_i32_103 c0_i32_104
  let c1_i32_105 : BitVec 32 := 1#32
  let v157 : BitVec 32 := Scalar.select v156 c1_i32_105 c8_i32_103
  let v158 : BitVec 32 := Scalar.remsi v155 v157
  let c0_i32_107 : BitVec 32 := 0#32
  let v160 : BitVec 1 := Scalar.cmpi .slt v158 c0_i32_107
  let c0_i32_108 : BitVec 32 := 0#32
  let v161 : BitVec 1 := Scalar.cmpi .slt v157 c0_i32_108
  let v162 : BitVec 1 := Scalar.xori v160 v161
  let c0_i32_106 : BitVec 32 := 0#32
  let v159 : BitVec 1 := Scalar.cmpi .ne v158 c0_i32_106
  let v163 : BitVec 1 := Scalar.andi v162 v159
  let v164 : BitVec 32 := Scalar.addi v158 v157
  let v165 : BitVec 32 := Scalar.select v163 v164 v158
  let c1_i32_340 : BitVec 32 := 1#32
  let v433 : BitVec 32 := Scalar.muli v165 c1_i32_340
  let v434 : BitVec 32 := Scalar.addi c0_i32_341 v433
  v434.toNat
def k0_dev13 (d0 : Dev nD) : Nat :=
  let c0_i32_347 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_110 : BitVec 32 := 6#32
  let v167 : BitVec 32 := Scalar.addi v2 c6_i32_110
  let c8_i32_111 : BitVec 32 := 8#32
  let c0_i32_112 : BitVec 32 := 0#32
  let v168 : BitVec 1 := Scalar.cmpi .eq c8_i32_111 c0_i32_112
  let c1_i32_113 : BitVec 32 := 1#32
  let v169 : BitVec 32 := Scalar.select v168 c1_i32_113 c8_i32_111
  let v170 : BitVec 32 := Scalar.remsi v167 v169
  let c0_i32_115 : BitVec 32 := 0#32
  let v172 : BitVec 1 := Scalar.cmpi .slt v170 c0_i32_115
  let c0_i32_116 : BitVec 32 := 0#32
  let v173 : BitVec 1 := Scalar.cmpi .slt v169 c0_i32_116
  let v174 : BitVec 1 := Scalar.xori v172 v173
  let c0_i32_114 : BitVec 32 := 0#32
  let v171 : BitVec 1 := Scalar.cmpi .ne v170 c0_i32_114
  let v175 : BitVec 1 := Scalar.andi v174 v171
  let v176 : BitVec 32 := Scalar.addi v170 v169
  let v177 : BitVec 32 := Scalar.select v175 v176 v170
  let c1_i32_346 : BitVec 32 := 1#32
  let v441 : BitVec 32 := Scalar.muli v177 c1_i32_346
  let v442 : BitVec 32 := Scalar.addi c0_i32_347 v441
  v442.toNat
def k0_dev14 (d0 : Dev nD) : Nat :=
  let c0_i32_354 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_118 : BitVec 32 := 7#32
  let v179 : BitVec 32 := Scalar.addi v2 c7_i32_118
  let c8_i32_119 : BitVec 32 := 8#32
  let c0_i32_120 : BitVec 32 := 0#32
  let v180 : BitVec 1 := Scalar.cmpi .eq c8_i32_119 c0_i32_120
  let c1_i32_121 : BitVec 32 := 1#32
  let v181 : BitVec 32 := Scalar.select v180 c1_i32_121 c8_i32_119
  let v182 : BitVec 32 := Scalar.remsi v179 v181
  let c0_i32_123 : BitVec 32 := 0#32
  let v184 : BitVec 1 := Scalar.cmpi .slt v182 c0_i32_123
  let c0_i32_124 : BitVec 32 := 0#32
  let v185 : BitVec 1 := Scalar.cmpi .slt v181 c0_i32_124
  let v186 : BitVec 1 := Scalar.xori v184 v185
  let c0_i32_122 : BitVec 32 := 0#32
  let v183 : BitVec 1 := Scalar.cmpi .ne v182 c0_i32_122
  let v187 : BitVec 1 := Scalar.andi v186 v183
  let v188 : BitVec 32 := Scalar.addi v182 v181
  let v189 : BitVec 32 := Scalar.select v187 v188 v182
  let c1_i32_353 : BitVec 32 := 1#32
  let v449 : BitVec 32 := Scalar.muli v189 c1_i32_353
  let v450 : BitVec 32 := Scalar.addi c0_i32_354 v449
  v450.toNat
def k0_off10 (d0 : Dev nD) (c8_i32_368 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v468 : BitVec 32 := Scalar.addi v2 c8_i32_368
  let c8_i32_369 : BitVec 32 := 8#32
  let c0_i32_370 : BitVec 32 := 0#32
  let v469 : BitVec 1 := Scalar.cmpi .eq c8_i32_369 c0_i32_370
  let c1_i32_371 : BitVec 32 := 1#32
  let v470 : BitVec 32 := Scalar.select v469 c1_i32_371 c8_i32_369
  let v471 : BitVec 32 := Scalar.remsi v468 v470
  let c0_i32_373 : BitVec 32 := 0#32
  let v473 : BitVec 1 := Scalar.cmpi .slt v471 c0_i32_373
  let c0_i32_374 : BitVec 32 := 0#32
  let v474 : BitVec 1 := Scalar.cmpi .slt v470 c0_i32_374
  let v475 : BitVec 1 := Scalar.xori v473 v474
  let c0_i32_372 : BitVec 32 := 0#32
  let v472 : BitVec 1 := Scalar.cmpi .ne v471 c0_i32_372
  let v476 : BitVec 1 := Scalar.andi v475 v472
  let v477 : BitVec 32 := Scalar.addi v471 v470
  let v478 : BitVec 32 := Scalar.select v476 v477 v471
  let c512_i32_375 : BitVec 32 := 512#32
  let v479 : BitVec 32 := Scalar.muli v478 c512_i32_375
  let c7168_i32 : BitVec 32 := 7168#32
  ![v479.toNat, 7168]
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x4096, .bf16⟩
  | .hbm, ⟨3, _⟩ => ⟨S4096x8192, .bf16⟩
  | .hbm, ⟨4, _⟩ => ⟨S4096x8192, .f32⟩
  | .hbm, ⟨5, _⟩ => ⟨S4096x8192, .bf16⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Program.lean ====
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch

/-! # The kernel body, written as its loop

The printed body is one flat list of 348 operations: a handshake, the narrowing of the resident
shard, and then 24 jobs (three phases of eight column chunks each), every job fetching blocks of
the weight matrix, narrowing them, and multiplying. This file writes the same operations with the
loop still in them, each piece taking what runs after it as an argument, and proves that the two
are the same program. -/

@[expose] public section

set_option maxRecDepth 65536

noncomputable section

namespace Cert.KernelIdeal.Proto

open Idealize.ShloMosaic Idealize.ShloMosaic.TcCoe
open Idealize.SL Idealize.SL.Sem
open Cert.KernelIdeal.Gen

variable {F : FTy → Type} [FloatOps F]

/-- A program of the TensorCore, returning nothing. -/
abbrev KProg (F : FTy → Type) [FloatOps F] : Type 1 := Prog (TpuEff nD τ sig (Elt F) Λ₀ .tc) PUnit

/-! ## The buffers -/

/-- The resident shard of the activations, as staged. -/
abbrev xM : Memref sig .tc .vmem S4096x512 .f32 := Memref.whole cc0_stg0_0
/-- The weights, in main memory. -/
abbrev wM : Memref sig .tc .hbm S4096x8192 .f32 := Memref.whole main_arg1
/-- The result's staging buffer. -/
abbrev oM : Memref sig .tc .vmem S512x8192 .bf16 := Memref.whole cc0_stg1_0
/-- The shard in the narrow format. -/
abbrev sM : Memref sig .tc .vmem S4096x512 .bf16 := Memref.whole cc0_scratch0
/-- The gathered rows. -/
abbrev gM : Memref sig .tc .vmem S512x4096 .bf16 := Memref.whole cc0_scratch1
/-- The fetched weights, two slots. -/
abbrev bM : Memref sig .tc .vmem S2x2048x1024 .f32 := Memref.whole cc0_scratch2
/-- The narrowed weights, two slots. -/
abbrev rM : Memref sig .tc .vmem S2x2048x1024 .bf16 := Memref.whole cc0_scratch3
/-- The barrier semaphore. -/
abbrev barS : Sems sig S_ := SemArray.scalar (sig.barrier 0 rfl)

/-! ## Sizes of a phase -/

/-- How many blocks of the contraction a phase takes. -/
abbrev nb : Fin 3 → ℕ
  | 0 => 1
  | 1 => 3
  | 2 => 4
/-- The first block of a phase. -/
abbrev b0 : Fin 3 → ℕ
  | 0 => 0
  | 1 => 1
  | 2 => 4
/-- The columns contracted in a phase. -/
abbrev KK : Fin 3 → ℕ
  | 0 => 512
  | 1 => 1536
  | 2 => 2048
/-- Where a phase's columns of the gathered rows begin. -/
abbrev K0 : Fin 3 → ℕ
  | 0 => 0
  | 1 => 512
  | 2 => 2048

/-- One slot's rows of a phase. -/
abbrev SW (p : Fin 3) : Shape := ⟨3, ![1, KK p, 1024]⟩
/-- The same as a matrix. -/
abbrev SK (p : Fin 3) : Shape := ⟨2, ![KK p, 1024]⟩
/-- The gathered rows' columns of a phase. -/
abbrev SX (p : Fin 3) : Shape := ⟨2, ![512, KK p]⟩

/-! ## Where the pieces lie -/

/-- The word the program adds to its own number to name block `b` of the contraction. -/
abbrev bword (b : Fin 8) : BitVec 32 := BitVec.ofNat 32 (8 - b.val)

/-- Where a block of the weights lies: block `b` counted down from the device, chunk `ch`. -/
abbrev woff (d0 : Dev nD) (b : Fin 8) : Fin 8 → (Fin 2 → ℕ)
  | 0 => k0_off3 d0 (bword b)
  | 1 => k0_off4 d0 (bword b)
  | 2 => k0_off5 d0 (bword b)
  | 3 => k0_off6 d0 (bword b)
  | 4 => k0_off7 d0 (bword b)
  | 5 => k0_off8 d0 (bword b)
  | 6 => k0_off9 d0 (bword b)
  | 7 => k0_off10 d0 (bword b)

/-- In closed form: rows of block `d0 - b`, columns of the chunk. -/
theorem woff_eq (d0 : Dev nD) (b ch : Fin 8) :
    woff d0 b ch = ![512 * ((d0.val + (8 - b.val)) % 8), 1024 * ch.val] := by
  fin_cases ch <;> (revert b; revert d0; decide +kernel)

theorem woff_inb (d0 : Dev nD) (b ch : Fin 8) :
    ∀ a, (woff d0 b ch) a + S512x1024.size a ≤ S4096x8192.size a := by
  rw [woff_eq]
  intro a
  have h := Nat.mod_lt (d0.val + (8 - b.val)) (by decide : 0 < 8)
  have h' := ch.isLt
  fin_cases a <;> simp <;> omega

theorem binb (s : Fin 2) (i : Fin 4) :
    ∀ a, (![s.val, 512 * i.val, 0] : Fin 3 → ℕ) a + S1x512x1024.size a ≤ S2x2048x1024.size a := by
  revert s i; decide

theorem slot_inb (s : Fin 2) (p : Fin 3) :
    ∀ a, (![s.val, 0, 0] : Fin 3 → ℕ) a + (SW p).size a ≤ S2x2048x1024.size a := by
  revert s p; decide

theorem sem2_inb (s : Fin 2) : ∀ a, (![s.val] : Fin 1 → ℕ) a + S1.size a ≤ S2.size a := by
  revert s; decide

theorem sem7_inb (e : Fin 7) : ∀ a, (![e.val] : Fin 1 → ℕ) a + S1.size a ≤ S7.size a := by
  revert e; decide

theorem gat_inb (p : Fin 3) :
    ∀ a, (![0, K0 p] : Fin 2 → ℕ) a + (SX p).size a ≤ S512x4096.size a := by
  revert p; decide

theorem out_inb (ch : Fin 8) :
    ∀ a, (![0, 1024 * ch.val] : Fin 2 → ℕ) a + S512x1024.size a ≤ S512x8192.size a := by
  revert ch; decide

theorem gblk_inb (e : Fin 7) :
    ∀ a, (![0, 512 * (e.val + 1)] : Fin 2 → ℕ) a + S512x512.size a ≤ S512x4096.size a := by
  revert e; decide

/-- A block of the weights. -/
abbrev wBlk (d0 : Dev nD) (b ch : Fin 8) : Memref sig .tc .hbm S512x1024 .f32 :=
  wM.slice (Rect.unit (s := S4096x8192) (woff d0 b ch) S512x1024.size (woff_inb d0 b ch)) (fun _ => rfl)
/-- Where it is fetched to: piece `i` of slot `s`. -/
abbrev bBlk (s : Fin 2) (i : Fin 4) : Memref sig .tc .vmem S512x1024 .f32 :=
  (bM.slice (Rect.unit (s := S2x2048x1024) ![s.val, 512 * i.val, 0] S1x512x1024.size (binb s i))
    (fun _ => rfl)).squeeze S512x1024 squeezes_S1x512x1024_S512x1024
/-- The semaphore of a slot's fetches. -/
abbrev wSem (s : Fin 2) : DmaSem sig :=
  ((cc0_scratch6.slice (Rect.unit (s := S2) ![s.val] S1.size (sem2_inb s))).squeeze S_ squeezes_S1_S_).sem
/-- The semaphore that a send has left. -/
abbrev sendSem (e : Fin 7) : DmaSem sig :=
  ((cc0_scratch4.slice (Rect.unit (s := S7) ![e.val] S1.size (sem7_inb e))).squeeze S_ squeezes_S1_S_).sem
/-- The semaphore that a send has arrived. -/
abbrev recvSem (e : Fin 7) : DmaSem sig :=
  ((cc0_scratch5.slice (Rect.unit (s := S7) ![e.val] S1.size (sem7_inb e))).squeeze S_ squeezes_S1_S_).sem
/-- The rows sent `e + 1` devices on. -/
abbrev sBlk (d0 : Dev nD) (e : Fin 7) : Memref sig .tc .vmem S512x512 .bf16 :=
  sM.slice (Rect.unit (s := S4096x512) (k0_off2 d0 (BitVec.ofNat 32 (1 + e.val))) S512x512.size
    (k0_off2_inb d0 e)) (fun _ => rfl)
/-- Where they land. -/
abbrev gBlk (e : Fin 7) : Memref sig .tc .vmem S512x512 .bf16 :=
  gM.slice (Rect.unit (s := S512x4096) ![0, 512 * (e.val + 1)] S512x512.size (gblk_inb e)) (fun _ => rfl)

/-- A slot's rows of a phase, in either two-slot buffer. -/
abbrev slotR (s : Fin 2) (p : Fin 3) : Rect S2x2048x1024 :=
  Rect.unit (s := S2x2048x1024) ![s.val, 0, 0] (SW p).size (slot_inb s p)
/-- The gathered columns of a phase. -/
abbrev gatR (p : Fin 3) : Rect S512x4096 :=
  Rect.unit (s := S512x4096) ![0, K0 p] (SX p).size (gat_inb p)
/-- A chunk of the result. -/
abbrev outR (ch : Fin 8) : Rect S512x8192 :=
  Rect.unit (s := S512x8192) ![0, 1024 * ch.val] S512x1024.size (out_inb ch)

theorem sBlk_words (d0 : Dev nD) (e : Fin 7) : (sBlk d0 e).view.WordExact :=
  (Memref.isWhole_whole _).wordExact_slice rfl _ (k0_off2_wordsbf16 d0 e)
theorem gBlk_words (e : Fin 7) : (gBlk e).view.WordExact :=
  match e with
  | 0 => (Memref.isWhole_whole _).wordExact_slice rfl _ wordsbf16_S512x4096_S512x512_0_512
  | 1 => (Memref.isWhole_whole _).wordExact_slice rfl _ wordsbf16_S512x4096_S512x512_0_1024
  | 2 => (Memref.isWhole_whole _).wordExact_slice rfl _ wordsbf16_S512x4096_S512x512_0_1536
  | 3 => (Memref.isWhole_whole _).wordExact_slice rfl _ wordsbf16_S512x4096_S512x512_0_2048
  | 4 => (Memref.isWhole_whole _).wordExact_slice rfl _ wordsbf16_S512x4096_S512x512_0_2560
  | 5 => (Memref.isWhole_whole _).wordExact_slice rfl _ wordsbf16_S512x4096_S512x512_0_3072
  | 6 => (Memref.isWhole_whole _).wordExact_slice rfl _ wordsbf16_S512x4096_S512x512_0_3584
theorem slot_pos (p : Fin 3) : 0 < (SW p).numel := by revert p; decide
theorem gat_pos (p : Fin 3) : 0 < (SX p).numel := by revert p; decide
theorem slot_exact : ∀ (s : Fin 2) (p : Fin 3), (rM.access (slotR s p)).StoreExact Finset.univ
  | 0, 0 => (Memref.isWhole_whole _).storeExact_slice rfl _ packedbf16_S2x2048x1024_S1x512x1024_0_0_0
  | 1, 0 => (Memref.isWhole_whole _).storeExact_slice rfl _ packedbf16_S2x2048x1024_S1x512x1024_1_0_0
  | 0, 1 => (Memref.isWhole_whole _).storeExact_slice rfl _ packedbf16_S2x2048x1024_S1x1536x1024_0_0_0
  | 1, 1 => (Memref.isWhole_whole _).storeExact_slice rfl _ packedbf16_S2x2048x1024_S1x1536x1024_1_0_0
  | 0, 2 => (Memref.isWhole_whole _).storeExact_slice rfl _ packedbf16_S2x2048x1024_S1x2048x1024_0_0_0
  | 1, 2 => (Memref.isWhole_whole _).storeExact_slice rfl _ packedbf16_S2x2048x1024_S1x2048x1024_1_0_0
theorem out_exact : ∀ ch : Fin 8, (oM.access (outR ch)).StoreExact Finset.univ
  | 0 => (Memref.isWhole_whole _).storeExact_slice rfl _ packedbf16_S512x8192_S512x1024_0_0
  | 1 => (Memref.isWhole_whole _).storeExact_slice rfl _ packedbf16_S512x8192_S512x1024_0_1024
  | 2 => (Memref.isWhole_whole _).storeExact_slice rfl _ packedbf16_S512x8192_S512x1024_0_2048
  | 3 => (Memref.isWhole_whole _).storeExact_slice rfl _ packedbf16_S512x8192_S512x1024_0_3072
  | 4 => (Memref.isWhole_whole _).storeExact_slice rfl _ packedbf16_S512x8192_S512x1024_0_4096
  | 5 => (Memref.isWhole_whole _).storeExact_slice rfl _ packedbf16_S512x8192_S512x1024_0_5120
  | 6 => (Memref.isWhole_whole _).storeExact_slice rfl _ packedbf16_S512x8192_S512x1024_0_6144
  | 7 => (Memref.isWhole_whole _).storeExact_slice rfl _ packedbf16_S512x8192_S512x1024_0_7168

/-! ## The pure steps -/

theorem casts_WK (p : Fin 3) : (SW p).ShapeCasts (SK p) := by revert p; decide
theorem casts_KW (p : Fin 3) : (SK p).ShapeCasts (SW p) := by revert p; decide

/-- Narrowing a slot. -/
def narrow (p : Fin 3) (v : Vec F (SW p) .f32) : FVec F (SW p) .bf16 :=
  shapeCast (SW p) (truncf .bf16 (shapeCast (SK p) v (casts_WK p)) bitsLt_bf16_f32) (casts_KW p)

/-- The product of a phase, in the wide format. -/
def prod (p : Fin 3) (x : Vec F (SX p) .bf16) (w : Vec F (SW p) .bf16) : FVec F S512x1024 .f32 :=
  matmul (DotDims.plain 512 (KK p) 1024) none x (shapeCast (SK p) w (casts_WK p))
    (constant S512x1024 .f32 0#32)

/-- What the first phase stores of a chunk. -/
def stage0 (x : Vec F (SX 0) .bf16) (w : Vec F (SW 0) .bf16) : FVec F S512x1024 .bf16 :=
  truncf .bf16 (prod 0 x w) bitsLt_bf16_f32

/-- What a later phase puts on top of a chunk before narrowing: the last one also clips at zero. -/
def clip (p : Fin 3) (v : FVec F S512x1024 .f32) : FVec F S512x1024 .f32 :=
  match p with
  | 2 => maximumf v (broadcast S512x1024 (Scalar.ofBits .f32 0x00000000#32))
  | _ => v

/-- What a later phase stores of a chunk, from what the chunk held. -/
def stageN (p : Fin 3) (x : Vec F (SX p) .bf16) (w : Vec F (SW p) .bf16) (o : Vec F S512x1024 .bf16) :
    FVec F S512x1024 .bf16 :=
  truncf .bf16 (clip p (addf (extf .f32 (shapeCast S512x1024 o shapeCasts_S512x1024_S512x1024)
    bitsLt_bf16_f32) (prod p x w))) bitsLt_bf16_f32

/-! ## The pieces of the program -/

/-- The device signalled `e + 1` on. -/
abbrev bdev (d0 : Dev nD) : Fin 7 → Dev nD
  | 0 => ⟨k0_dev1 d0, k0_dev1_lt d0⟩
  | 1 => ⟨k0_dev2 d0, k0_dev2_lt d0⟩
  | 2 => ⟨k0_dev3 d0, k0_dev3_lt d0⟩
  | 3 => ⟨k0_dev4 d0, k0_dev4_lt d0⟩
  | 4 => ⟨k0_dev5 d0, k0_dev5_lt d0⟩
  | 5 => ⟨k0_dev6 d0, k0_dev6_lt d0⟩
  | 6 => ⟨k0_dev7 d0, k0_dev7_lt d0⟩
/-- The device sent to `e + 1` on. -/
abbrev sdev (d0 : Dev nD) : Fin 7 → Dev nD
  | 0 => ⟨k0_dev8 d0, k0_dev8_lt d0⟩
  | 1 => ⟨k0_dev9 d0, k0_dev9_lt d0⟩
  | 2 => ⟨k0_dev10 d0, k0_dev10_lt d0⟩
  | 3 => ⟨k0_dev11 d0, k0_dev11_lt d0⟩
  | 4 => ⟨k0_dev12 d0, k0_dev12_lt d0⟩
  | 5 => ⟨k0_dev13 d0, k0_dev13_lt d0⟩
  | 6 => ⟨k0_dev14 d0, k0_dev14_lt d0⟩

/-- One signal of the handshake. -/
def signal (d0 : Dev nD) (e : Fin 7) (k : KProg F) : KProg F :=
  .op (.semSignal ((bdev d0 e, .tc) : Thread nD τ) barS.sem (1#32 : BitVec 32).toInt) fun _ => k
/-- The wait of the handshake. -/
def barWait (k : KProg F) : KProg F :=
  .op (.semWait barS.sem (7#32 : BitVec 32).toInt) fun _ => k
/-- One send. -/
def send (d0 : Dev nD) (e : Fin 7) (k : KProg F) : KProg F :=
  .op (.enqueueDma (sBlk d0 e) (.remote (Dev.tc (sdev d0 e)) (gBlk e) (.dma (sendSem e))) (.dma (recvSem e))
    (sBlk_words d0 e) (gBlk_words e) ⟨⟨rfl, Or.inl rfl⟩, trivial⟩) fun _ => k
/-- Waiting until a send has left. -/
def sent (d0 : Dev nD) (e : Fin 7) (k : KProg F) : KProg F :=
  .op (.waitDma2 (sendSem e) (gBlk e) (sBlk d0 e) (gBlk_words e) (sBlk_words d0 e)) fun _ => k
/-- Waiting until a send has arrived. -/
def got (d0 : Dev nD) (e : Fin 7) (k : KProg F) : KProg F :=
  .op (.waitDma2 (recvSem e) (sBlk d0 e) (gBlk e) (sBlk_words d0 e) (gBlk_words e)) fun _ => k
/-- Narrowing the shard. -/
def shard (k : KProg F) : KProg F :=
  .op (.load xM (Rect.unit (s := S4096x512) ![0, 0] S4096x512.size inb_S4096x512_S4096x512_0_0).toLoadRect
    (View.loadsAt_vmem h_S4096x512)) fun v =>
  .op (.load sM (Rect.unit (s := S4096x512) ![0, 0] S4096x512.size inb_S4096x512_S4096x512_0_0).toLoadRect
    (View.loadsAt_vmem h_S4096x512)) fun _ =>
  .op (.store sM (Rect.unit (s := S4096x512) ![0, 0] S4096x512.size inb_S4096x512_S4096x512_0_0) (k0_pay1 v)
    Finset.univ (View.stores_vmem h_S4096x512 ((Memref.isWhole_whole _).storeExact_slice rfl _
      packedbf16_S4096x512_S4096x512_0_0) (fun _ => rfl)) (.inl rfl)) fun _ => k
/-- The device's own rows into the first block of the gathered ones. -/
def ownRows (d0 : Dev nD) (k : KProg F) : KProg F :=
  .op (.load sM (Rect.unit (s := S4096x512) (k0_off1 d0) S512x512.size (k0_off1_inb d0)).toLoadRect
    (View.loadsAt_vmem h_S512x512)) fun v =>
  .op (.load gM (Rect.unit (s := S512x4096) ![0, 0] S512x512.size inb_S512x4096_S512x512_0_0).toLoadRect
    (View.loadsAt_vmem h_S512x512)) fun _ =>
  .op (.store gM (Rect.unit (s := S512x4096) ![0, 0] S512x512.size inb_S512x4096_S512x512_0_0) (k0_pay2 v)
    Finset.univ (View.stores_vmem h_S512x512 ((Memref.isWhole_whole _).storeExact_slice rfl _
      packedbf16_S512x4096_S512x512_0_0) (fun _ => rfl)) (.inl rfl)) fun _ => k
/-- Fetching one block of the weights. -/
def fetch1 (d0 : Dev nD) (s : Fin 2) (ch b : Fin 8) (i : Fin 4) (k : KProg F) : KProg F :=
  .op (.enqueueDma (wBlk d0 b ch) (.here (bBlk s i)) (.dma (wSem s)) (View.wordExact_bits rfl)
    ((View.wordExact_bits rfl).reshape _ _) ⟨Or.inl rfl, trivial⟩) fun _ => k
/-- Waiting for one block. -/
def await1 (d0 : Dev nD) (s : Fin 2) (ch b : Fin 8) (i : Fin 4) (k : KProg F) : KProg F :=
  .op (.waitDma2 (wSem s) (wBlk d0 b ch) (bBlk s i) (View.wordExact_bits rfl)
    ((View.wordExact_bits rfl).reshape _ _)) fun _ => k
/-- Block `i` of a phase. -/
abbrev blk (p : Fin 3) (i : ℕ) : Fin 8 := ⟨(b0 p + i) % 8, Nat.mod_lt _ (by decide)⟩
/-- Piece `i` of a slot. -/
abbrev pc (i : ℕ) : Fin 4 := ⟨i % 4, Nat.mod_lt _ (by decide)⟩
/-- `n` fetches, from piece `i` on. -/
def fetchN (d0 : Dev nD) (s : Fin 2) (ch : Fin 8) (p : Fin 3) : ℕ → ℕ → KProg F → KProg F
  | 0, _, k => k
  | n + 1, i, k => fetch1 d0 s ch (blk p i) (pc i) (fetchN d0 s ch p n (i + 1) k)
/-- `n` waits, from piece `i` on. -/
def awaitN (d0 : Dev nD) (s : Fin 2) (ch : Fin 8) (p : Fin 3) : ℕ → ℕ → KProg F → KProg F
  | 0, _, k => k
  | n + 1, i, k => await1 d0 s ch (blk p i) (pc i) (awaitN d0 s ch p n (i + 1) k)
/-- Narrowing a slot. -/
def conv (s : Fin 2) (p : Fin 3) (k : KProg F) : KProg F :=
  .op (.load bM (slotR s p).toLoadRect (View.loadsAt_vmem (slot_pos p))) fun v =>
  .op (.load rM (slotR s p).toLoadRect (View.loadsAt_vmem (slot_pos p))) fun _ =>
  .op (.store rM (slotR s p) (narrow p v) Finset.univ
    (View.stores_vmem (slot_pos p) (slot_exact s p) (fun _ => rfl)) (.inl rfl)) fun _ => k
/-- The first phase's product of a chunk. -/
def dotA (s : Fin 2) (ch : Fin 8) (k : KProg F) : KProg F :=
  .op (.load gM (gatR 0).toLoadRect (View.loadsAt_vmem (gat_pos 0))) fun x =>
  .op (.load rM (slotR s 0).toLoadRect (View.loadsAt_vmem (slot_pos 0))) fun w =>
  .op (.load oM (outR ch).toLoadRect (View.loadsAt_vmem h_S512x1024)) fun _ =>
  .op (.store oM (outR ch) (stage0 x w) Finset.univ
    (View.stores_vmem h_S512x1024 (out_exact ch) (fun _ => rfl)) (.inl rfl)) fun _ => k
/-- A later phase's product of a chunk, on top of what it held. -/
def dotB (p : Fin 3) (s : Fin 2) (ch : Fin 8) (k : KProg F) : KProg F :=
  .op (.load gM (gatR p).toLoadRect (View.loadsAt_vmem (gat_pos p))) fun x =>
  .op (.load rM (slotR s p).toLoadRect (View.loadsAt_vmem (slot_pos p))) fun w =>
  .op (.load oM (outR ch).toLoadRect (View.loadsAt_vmem h_S512x1024)) fun o =>
  .op (.load oM (outR ch).toLoadRect (View.loadsAt_vmem h_S512x1024)) fun _ =>
  .op (.store oM (outR ch) (stageN p x w o) Finset.univ
    (View.stores_vmem h_S512x1024 (out_exact ch) (fun _ => rfl)) (.inl rfl)) fun _ => k

/-! ## The jobs -/

/-- The phase of a job. -/
abbrev jp (j : ℕ) : Fin 3 := ⟨j / 8 % 3, Nat.mod_lt _ (by decide)⟩
/-- The chunk of a job. -/
abbrev jc (j : ℕ) : Fin 8 := ⟨j % 8, Nat.mod_lt _ (by decide)⟩
/-- The slot of a job. -/
abbrev js (j : ℕ) : Fin 2 := ⟨j % 2, Nat.mod_lt _ (by decide)⟩

/-- The fetches of a job. -/
def fetchJ (d0 : Dev nD) (j : ℕ) (k : KProg F) : KProg F :=
  fetchN d0 (js j) (jc j) (jp j) (nb (jp j)) 0 k
/-- The waits and the narrowing of a job. -/
def convJ (d0 : Dev nD) (j : ℕ) (k : KProg F) : KProg F :=
  awaitN d0 (js j) (jc j) (jp j) (nb (jp j)) 0 (conv (js j) (jp j) k)
/-- The product of a job. -/
def dotJ (j : ℕ) (k : KProg F) : KProg F :=
  match jp j with
  | 0 => dotA (js j) (jc j) k
  | p => dotB p (js j) (jc j) k
/-- What a job waits for before it starts: the phase's rows. -/
def preJ (d0 : Dev nD) (j : ℕ) (k : KProg F) : KProg F :=
  if j = 8 then got d0 0 (got d0 1 (got d0 2 k))
  else if j = 16 then got d0 3 (got d0 4 (got d0 5 (got d0 6 k)))
  else k
/-- After the fourth job: the second wave of sends. -/
def postJ (d0 : Dev nD) (j : ℕ) (k : KProg F) : KProg F :=
  if j = 3 then sent d0 0 (sent d0 1 (sent d0 2 (send d0 3 (send d0 4 (send d0 5 (send d0 6 k))))))
  else k
/-- One turn of the loop: the next job's narrowing, the fetch after next, this job's product. -/
def turn (d0 : Dev nD) (j : ℕ) (k : KProg F) : KProg F :=
  preJ d0 j (
    (if j < 23 then convJ d0 (j + 1) else id) (
      (if j < 21 then fetchJ d0 (j + 3) else id) (
        dotJ j (postJ d0 j k))))
/-- `n` turns from job `j` on. -/
def turns (d0 : Dev nD) : ℕ → ℕ → KProg F → KProg F
  | 0, _, k => k
  | n + 1, j, k => turn d0 j (turns d0 n (j + 1) k)
/-- The loop with what comes before it and after it. -/
def work (d0 : Dev nD) : KProg F :=
  signal d0 0 (signal d0 1 (signal d0 2 (signal d0 3 (signal d0 4 (signal d0 5 (signal d0 6 (
  barWait (shard (ownRows d0 (send d0 0 (send d0 1 (send d0 2 (
  fetchJ d0 0 (fetchJ d0 1 (convJ d0 0 (fetchJ d0 2 (
  turns d0 24 0 (sent d0 3 (sent d0 4 (sent d0 5 (sent d0 6 (.ret ⟨⟩))))))))))))))))))))))
/-- The whole program. -/
def body : KProg F := .op .deviceId fun d0 => work d0

end Cert.KernelIdeal.Proto

end

end
-- ==== Proof.Protocol.lean ====
module

public import proofs.«01_k».proof.Proof.Program
public import Idealize.ShloMosaic.Lib.Pipeline.Launch
public import Idealize.ShloMosaic.Lib.Pipeline.Kit
public import Idealize.ShloMosaic.Lib.Pipeline.Value
public import Idealize.ShloMosaic.Lib.ValueIdxCore
public import Idealize.ShloMosaic.Lib.Batch
public import Idealize.ShloMosaic.Lib.Tactic

/-! # The protocol between the eight devices

Device `c` announces itself to every other device on the runtime's barrier semaphore and waits for
the seven announcements. The announcement from `c` to the device `e + 1` on gives away one block of
`c`'s gathering buffer: the block that device is going to fill. After its wait a device therefore
holds, for each `e`, block `e + 1` of the gathering buffer of the device `e + 1` on. It sends there
the 512 rows of its narrowed shard that belong to that device, and each send signals one semaphore
here when it has left and one there when it has arrived.

Levels: everything a device waits for while it still owes something is below what it owes. Its own
fetches and departures are at 0, announcements at 1, arrivals at 2. -/

@[expose] public section

set_option maxRecDepth 16384

noncomputable section

namespace Cert.KernelIdeal.Proto

open Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the handshakes and transfers between devices: duties named by a distance. -/
abbrev UB : Type := URounds (GSem nD τ sig) (Fin 7)
/-- With the pipeline's own, and counters for the fetches. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ) (ρ : Dev nD → PrngReg)

/-- The state at launch: any contents, every counter at zero. -/
def s₀ : MemSt nD τ sig (Elt F) := ⟨m, fun _ => 0, ρ⟩

/-! ## Distances -/

/-- The device `e + 1` on. -/
def peer (c : Dev nD) (e : Fin 7) : Dev nD := ⟨(c.val + (e.val + 1)) % 8, Nat.mod_lt _ (by decide)⟩
/-- The device `e + 1` back. -/
def back (c : Dev nD) (e : Fin 7) : Dev nD := ⟨(c.val + (7 - e.val)) % 8, Nat.mod_lt _ (by decide)⟩

theorem back_peer (c : Dev nD) (e : Fin 7) : back (peer c e) e = c := by revert c e; decide
theorem peer_back (c : Dev nD) (e : Fin 7) : peer (back c e) e = c := by revert c e; decide
theorem peer_rev (c : Dev nD) (e : Fin 7) : peer c e.rev = back c e := by revert c e; decide

theorem bdev_eq (c : Dev nD) (e : Fin 7) : bdev c e = peer c e := by
  fin_cases e <;> (revert c; decide +kernel)
theorem sdev_eq (c : Dev nD) (e : Fin 7) : sdev c e = peer c e := by
  fin_cases e <;> (revert c; decide +kernel)

/-- Going `e + 1` on, as a permutation of the devices. -/
def turnBy (e : Fin 7) : Dev nD ≃ Dev nD :=
  ⟨fun c => peer c e, fun c => back c e, fun c => back_peer c e, fun c => peer_back c e⟩

/-! ## Semaphores and cells -/

/-- The distance a departure semaphore is for. -/
def sndIx (q : DmaSem sig) : Option (Fin 7) :=
  if h : 2 ≤ q.val ∧ q.val < 9 then some ⟨q.val - 2, by omega⟩ else none
/-- The distance an arrival semaphore is for. -/
def rcvIx (q : DmaSem sig) : Option (Fin 7) :=
  if h : 9 ≤ q.val ∧ q.val < 16 then some ⟨q.val - 9, by omega⟩ else none

theorem sndIx_send (e : Fin 7) : sndIx (sendSem e) = some e := by revert e; decide +kernel
theorem sndIx_recv (e : Fin 7) : sndIx (recvSem e) = none := by revert e; decide +kernel
theorem rcvIx_recv (e : Fin 7) : rcvIx (recvSem e) = some e := by revert e; decide +kernel
theorem rcvIx_send (e : Fin 7) : rcvIx (sendSem e) = none := by revert e; decide +kernel
theorem sndIx_w (s : Fin 2) : sndIx (wSem s) = none := by revert s; decide +kernel
theorem rcvIx_w (s : Fin 2) : rcvIx (wSem s) = none := by revert s; decide +kernel

abbrev barCell (c : Dev nD) : GSem nD τ sig := ((c : Thread nD τ), .reg barS.sem)
abbrev sendCell (c : Dev nD) (e : Fin 7) : GSem nD τ sig := ((c : Thread nD τ), .dma (sendSem e))
abbrev recvCell (c : Dev nD) (e : Fin 7) : GSem nD τ sig := ((c : Thread nD τ), .dma (recvSem e))
abbrev wCell (c : Dev nD) (s : Fin 2) : GSem nD τ sig := ((c : Thread nD τ), .dma (wSem s))

/-- What a transfer between devices counts for. -/
abbrev N : ℕ := (gBlk 0).view.dmaCredit
theorem N_pos : 0 < N := View.dmaCredit_pos _ (by decide)
theorem N_g (e : Fin 7) : (gBlk e).view.dmaCredit = N := rfl
theorem N_s (c : Dev nD) (e : Fin 7) : (sBlk c e).view.dmaCredit = N := rfl

/-! ## Contents -/

/-- The shard as staged. -/
def xstg (c : Dev nD) : (cc0_stg0_0 : Ref sig .tc).ty.Contents (Elt F) :=
  (win0_0.blk (0 : Fin 1)).view.read (Elt F) (m ((c : Thread nD τ).loc main_arg0))
/-- The shard narrowed. -/
def xsF (c : Dev nD) : (cc0_scratch0 : Ref sig .tc).ty.Contents (Elt F) := k0_pay1 (xstg m c)
/-- The weights. -/
def wF (c : Dev nD) : (main_arg1 : Ref sig .tc).ty.Contents (Elt F) := m ((c : Thread nD τ).loc main_arg1)

/-- The device `b` back, for any block number. -/
def src (c : Dev nD) (b : ℕ) : Dev nD := ⟨(c.val + (8 - b % 8)) % 8, Nat.mod_lt _ (by decide)⟩

theorem src_succ (c : Dev nD) (e : Fin 7) : src c (e.val + 1) = back c e := by revert c e; decide
theorem src_zero (c : Dev nD) : src c 0 = c := by revert c; decide

/-- The gathered rows: column block `b` holds device `c`'s rows of the shard `b` devices back. -/
def xgF (c : Dev nD) : (cc0_scratch1 : Ref sig .tc).ty.Contents (Elt F) :=
  fun (i : S512x4096.Idx) =>
    (xsF m (src c ((i 1).val / 512)) : S4096x512.Idx → Elt F .bf16)
      (ix2 ⟨512 * c.val + (i 0).val, by have := c.isLt; have := idx2_lt0 i; simp only [nD] at *; omega⟩
        ⟨(i 1).val % 512, Nat.mod_lt _ (by decide)⟩)

/-! ## The pieces handed over -/

/-- Block `e + 1` of a device's gathering buffer. -/
def gPts (c : Dev nD) (e : Fin 7) (f : Buf (Elt F) ((gBlk e).view.loc (c : Thread nD τ))) : sProp 𝕄 :=
  (gBlk e).view.loc (c : Thread nD τ) ↦[(gBlk e).view.set]{fullShare} f
/-- The rows of a device's shard that go `e + 1` on. -/
def sPts (c : Dev nD) (e : Fin 7) : sProp 𝕄 :=
  (sBlk c e).view.loc (c : Thread nD τ) ↦[(sBlk c e).view.set]{fullShare} xsF m c

omit [FloatOps F] in
instance gPts_storable (c : Dev nD) (e : Fin 7) (f) : BI.Storable (upEmb : UEmb _ 𝕄) (gPts (F := F) c e f) := by
  unfold gPts; infer_instance
instance sPts_storable (c : Dev nD) (e : Fin 7) : BI.Storable (upEmb : UEmb _ 𝕄) (sPts (F := F) m c e) := by
  unfold sPts; infer_instance

/-! ## The schedule -/

/-- What the announcement under distance `d` (from the device `d + 1` back) hands over: that
    device's block for this one. -/
def barPay (c : Dev nD) (d : Fin 7) : sProp 𝕄 := iprop(∃ f, gPts (F := F) (peer c d.rev) d.rev f)

omit [FloatOps F] in
instance barPay_storable (c : Dev nD) (d : Fin 7) : BI.Storable (upEmb : UEmb _ 𝕄) (barPay (F := F) c d) := by
  unfold barPay; infer_instance

/-- The duties of a cell's one round. -/
def dutiesOf : SemLoc sig → Finset (Fin 7)
  | .reg _ => Finset.univ
  | .dma q => if (sndIx q).isSome ∨ (rcvIx q).isSome then {0} else ∅

/-- What the duty of a transfer semaphore hands over. -/
def xferPay (c : Dev nD) (q : DmaSem sig) : sProp 𝕄 :=
  match sndIx q with
  | some e => sPts m c e
  | none => match rcvIx q with
    | some e => gPts c e (xgF m c)
    | none => iprop(emp)

instance xferPay_storable (c : Dev nD) (q : DmaSem sig) : BI.Storable (upEmb : UEmb _ 𝕄) (xferPay (F := F) m c q) := by
  unfold xferPay
  split
  · infer_instance
  · split <;> infer_instance

/-- One round per cell. -/
def Rd : Rounds.Schedule (GSem nD τ sig) (Fin 7) 𝕄 where
  duties g r := if r = 0 ∧ g.1.2 = .tc then dutiesOf g.2 else ∅
  unitless _ := False
  amount g _ _ := match g.2 with
    | .reg _ => 1
    | .dma _ => N
  payload g _ d := match g.2 with
    | .reg _ => barPay g.1.1 d
    | .dma q => xferPay m g.1.1 q
  amount_pos g _ _ _ := by
    split
    · exact Nat.one_pos
    · exact N_pos

instance Rd_payload_storable (g : GSem nD τ sig) (r : ℕ) (d : Fin 7) :
    BI.Storable (upEmb : UEmb _ 𝕄) ((Rd (F := F) m).payload g r d) := by
  obtain ⟨t, sm⟩ := g
  cases sm
  · show BI.Storable upEmb (barPay t.1 d); infer_instance
  · show BI.Storable upEmb (xferPay m t.1 _); infer_instance

section Sched
variable (c : Dev nD) (e d : Fin 7)

theorem duties_bar : (Rd (F := F) m).duties (barCell c) 0 = Finset.univ := by
  show (if 0 = 0 ∧ (c : Thread nD τ).2 = .tc then (Finset.univ : Finset (Fin 7)) else ∅) = _
  exact if_pos ⟨rfl, rfl⟩
theorem duties_send : (Rd (F := F) m).duties (sendCell c e) 0 = {0} := by
  show (if 0 = 0 ∧ (c : Thread nD τ).2 = .tc then
    (if (sndIx (sendSem e)).isSome ∨ (rcvIx (sendSem e)).isSome then ({0} : Finset (Fin 7)) else ∅) else ∅) = _
  rw [if_pos ⟨rfl, rfl⟩]
  exact if_pos (.inl (by rw [sndIx_send]; rfl))
theorem duties_recv : (Rd (F := F) m).duties (recvCell c e) 0 = {0} := by
  show (if 0 = 0 ∧ (c : Thread nD τ).2 = .tc then
    (if (sndIx (recvSem e)).isSome ∨ (rcvIx (recvSem e)).isSome then ({0} : Finset (Fin 7)) else ∅) else ∅) = _
  rw [if_pos ⟨rfl, rfl⟩]
  exact if_pos (.inr (by rw [rcvIx_recv]; rfl))
theorem duties_later (g : GSem nD τ sig) : ∀ r, 1 ≤ r → (Rd (F := F) m).duties g r = ∅ :=
  fun r hr => if_neg fun h => by omega

theorem amount_bar : (Rd (F := F) m).amount (barCell c) 0 d = 1 := rfl
theorem amount_send : (Rd (F := F) m).amount (sendCell c e) 0 d = N := rfl
theorem amount_recv : (Rd (F := F) m).amount (recvCell c e) 0 d = N := rfl

theorem expect_bar : (Rd (F := F) m).expect (barCell c) 0 = 7 := by
  unfold Schedule.expect Schedule.amountOf
  rw [duties_bar, Finset.sum_congr rfl fun d _ => amount_bar m c d]
  simp
theorem expect_send : (Rd (F := F) m).expect (sendCell c e) 0 = N := by
  unfold Schedule.expect Schedule.amountOf; rw [duties_send, Finset.sum_singleton, amount_send]
theorem expect_recv : (Rd (F := F) m).expect (recvCell c e) 0 = N := by
  unfold Schedule.expect Schedule.amountOf; rw [duties_recv, Finset.sum_singleton, amount_recv]

theorem payload_bar : (Rd (F := F) m).payload (barCell c) 0 d = barPay c d := rfl
theorem payload_send : (Rd (F := F) m).payload (sendCell c e) 0 d = sPts m c e := by
  show xferPay m c (sendSem e) = _
  unfold xferPay; rw [sndIx_send]
theorem payload_recv : (Rd (F := F) m).payload (recvCell c e) 0 d = gPts c e (xgF m c) := by
  show xferPay m c (recvSem e) = _
  unfold xferPay; rw [sndIx_recv, rcvIx_recv]

/-- The announcements together: for each distance, the block to be filled there. -/
theorem rest_bar : bigSep ((Rd (F := F) m).duties (barCell c) 0 \ ∅) (fun d => (Rd (F := F) m).payload (barCell c) 0 d)
    = bigSep Finset.univ fun e : Fin 7 => iprop(∃ f, gPts (F := F) (peer c e) e f) := by
  rw [Finset.sdiff_empty, duties_bar, bigSep_univ_equiv Fin.revPerm (fun e : Fin 7 => iprop(∃ f, gPts (F := F) (peer c e) e f))]
  rfl
theorem rest_send : bigSep ((Rd (F := F) m).duties (sendCell c e) 0 \ ∅) (fun d => (Rd (F := F) m).payload (sendCell c e) 0 d)
    = sPts m c e := by
  rw [Finset.sdiff_empty, duties_send, bigSep_singleton, payload_send]
theorem rest_recv : bigSep ((Rd (F := F) m).duties (recvCell c e) 0 \ ∅) (fun d => (Rd (F := F) m).payload (recvCell c e) 0 d)
    = gPts c e (xgF m c) := by
  rw [Finset.sdiff_empty, duties_recv, bigSep_singleton, payload_recv]

end Sched

/-! ## What is owed, and the levels -/

/-- Counting down from the last distance. -/
abbrev ix (n : ℕ) : Fin 7 := ⟨6 - n, by omega⟩

/-- The last `n` announcements. -/
def oBar (c : Dev nD) : ℕ → CellTallies nD τ sig Unit
  | 0 => 0
  | n + 1 => oBar c n + tallyAt (barCell (peer c (ix n))) () 1
/-- The last `n` arrivals. -/
def oRecv (c : Dev nD) : ℕ → CellTallies nD τ sig Unit
  | 0 => 0
  | n + 1 => oRecv c n + tallyAt (recvCell (peer c (ix n)) (ix n)) () N
/-- All a device owes at launch. -/
def O₀ (c : Dev nD) : CellTallies nD τ sig Unit := oRecv c 7 + oBar c 7

def L (g : GSem nD τ sig) : Finset Unit := if g.1.2 = .tc then {()} else ∅
/-- Announcements at 1, arrivals at 2, everything else at 0. -/
def lv (g : GSem nD τ sig) (_ : Unit) : ℕ := match g.2 with
  | .reg _ => 1
  | .dma q => if (rcvIx q).isSome then 2 else 0

theorem L_of_ne (g : GSem nD τ sig) (h : g.1.2 ≠ .tc) : L g = ∅ := if_neg h
theorem L_tc (c : Dev nD) (sm : SemLoc sig) : L ((c : Thread nD τ), sm) = {()} := if_pos rfl

theorem oBar_pos {c : Dev nD} {g : GSem nD τ sig} {u : Unit} : ∀ {n : ℕ}, 0 < oBar c n g u → ∃ e, g = barCell (peer c e)
  | 0, h => absurd h (Nat.lt_irrefl 0)
  | n + 1, h => by
    unfold oBar at h
    rw [Pi.add_apply, Finsupp.add_apply, tallyAt_apply] at h
    by_cases h' : g = barCell (peer c (ix n)) ∧ u = ()
    · exact ⟨_, h'.1⟩
    · rw [if_neg h', Nat.add_zero] at h; exact oBar_pos h
theorem oRecv_pos {c : Dev nD} {g : GSem nD τ sig} {u : Unit} : ∀ {n : ℕ}, 0 < oRecv c n g u → ∃ e, g = recvCell (peer c e) e
  | 0, h => absurd h (Nat.lt_irrefl 0)
  | n + 1, h => by
    unfold oRecv at h
    rw [Pi.add_apply, Finsupp.add_apply, tallyAt_apply] at h
    by_cases h' : g = recvCell (peer c (ix n)) (ix n) ∧ u = ()
    · exact ⟨_, h'.1⟩
    · rw [if_neg h', Nat.add_zero] at h; exact oRecv_pos h

/-- Owed tallies that all lie on TensorCore cells above level `k`. -/
def Above (k : ℕ) (O : CellTallies nD τ sig Unit) : Prop :=
  ∀ g u, 0 < O g u → g.1.2 = .tc ∧ k < lv g ()

theorem above_recv (c : Dev nD) (n : ℕ) : Above 1 (oRecv c n) := fun g u h => by
  obtain ⟨e, rfl⟩ := oRecv_pos h
  refine ⟨rfl, ?_⟩
  show 1 < (if (rcvIx (recvSem e)).isSome then 2 else 0)
  rw [rcvIx_recv]; exact Nat.one_lt_two
theorem above_zero (k : ℕ) : Above k 0 := fun g u h => absurd h (Nat.lt_irrefl 0)
theorem above_bar (c : Dev nD) (n : ℕ) : Above 0 (oBar c n) := fun g u h => by
  obtain ⟨e, rfl⟩ := oBar_pos h
  exact ⟨rfl, Nat.one_pos⟩
theorem Above.mono {k : ℕ} {O : CellTallies nD τ sig Unit} (h : Above (k + 1) O) : Above k O :=
  fun g u hg => ⟨(h g u hg).1, Nat.lt_of_succ_lt (h g u hg).2⟩
theorem Above.add {k : ℕ} {O O' : CellTallies nD τ sig Unit} (h : Above k O) (h' : Above k O') : Above k (O + O') :=
  fun g u hg => by
    rw [Pi.add_apply, Finsupp.add_apply] at hg
    by_cases h0 : 0 < O g u
    · exact h g u h0
    · exact h' g u (by omega)
theorem above_O₀ (c : Dev nD) : Above 0 (O₀ c) := (above_recv c 7).mono.add (above_bar c 7)

omit [FloatOps F] in
/-- A wait on a cell at level at most `k` while everything owed lies above. -/
theorem mayWait (c : Dev nD) (sm : SemLoc sig) (k : ℕ) (hk : lv ((c : Thread nD τ), sm) () ≤ k)
    (O : CellTallies nD τ sig Unit) (hO : Above k O) :
    (levAts L lv : sProp 𝕄) ⊢ MayWait (c : Thread nD τ) sm () O :=
  MayOwe.of_cut (L := L) (lev := lv) k
    (fun p hp => by rw [Finset.mem_singleton.mp hp, L_tc]; exact Finset.mem_singleton_self _)
    (fun g u hg => by
      show u ∈ (if g.1.2 = .tc then {()} else ∅)
      rw [if_pos (hO g u hg).1]; exact Finset.mem_singleton_self _)
    (fun p hp => by rw [Finset.mem_singleton.mp hp]; exact hk)
    (fun g u hg => (hO g u hg).2)

theorem lv_low (c : Dev nD) (q : DmaSem sig) (h : rcvIx q = none) : lv ((c : Thread nD τ), .dma q) () ≤ 0 := by
  show (if (rcvIx q).isSome then 2 else 0) ≤ 0
  rw [h]; exact le_refl _

end Cert.KernelIdeal.Proto

end

end
-- ==== Proof.Pieces.lean ====
module

public import proofs.«01_k».proof.Proof.Protocol

/-! # The steps between devices

One lemma for each operation that touches another device: an announcement, the wait for the
announcements, a send, and the waits for a send's departure and arrival; and what a landed block
holds. -/

@[expose] public section

set_option maxRecDepth 16384

noncomputable section

namespace Cert.KernelIdeal.Proto

open Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- Running a program of device `c` to a postcondition. -/
abbrev WP (c : Dev nD) (p : KProg F) (Q : PUnit → sProp 𝕄) : sProp 𝕄 :=
  wp frame (wpE (defs₀ (F := F)) 𝒱₀ (c : Thread nD τ) none) Set.univ p Q

/-! ## The cells of all devices -/

/-- A device's cells: its barrier, its seven departures, its seven arrivals. -/
abbrev CK : Type := Unit ⊕ (Fin 7 ⊕ Fin 7)
abbrev csem : CK → SemLoc sig
  | .inl _ => .reg barS.sem
  | .inr (.inl e) => .dma (sendSem e)
  | .inr (.inr e) => .dma (recvSem e)
abbrev kcell (ck : Dev nD × CK) : GSem nD τ sig := ((ck.1 : Thread nD τ), csem ck.2)

/-- The invariants of all cells of all devices, and that each is at its first round. -/
def records (K : Dev nD × CK → ℕ) : sProp 𝕄 :=
  iprop((bigSep Finset.univ fun ck : Dev nD × CK => cellInv ER (Rd m) (K ck) (kcell ck))
    ∗ bigSep Finset.univ fun ck : Dev nD × CK => reached ER (kcell ck) 0)

instance records_persistent (K : Dev nD × CK → ℕ) : BI.Persistent (records (F := F) m K) := by
  unfold records; infer_instance

theorem inv_at (K : Dev nD × CK → ℕ) (ck : Dev nD × CK) :
    (records m K : sProp 𝕄) ⊢ cellInv ER (Rd m) (K ck) (kcell ck) := by
  have h : (bigSep Finset.univ fun ck : Dev nD × CK => (cellInv ER (Rd m) (K ck) (kcell ck) : sProp 𝕄))
    ⊢ cellInv ER (Rd m) (K ck) (kcell ck) := bigSep_elim (Finset.mem_univ ck)
  unfold records
  iintro ⟨H, -⟩
  iapply h
  iexact H
theorem reached_at (K : Dev nD × CK → ℕ) (ck : Dev nD × CK) :
    (records m K : sProp 𝕄) ⊢ reached ER (kcell ck) 0 := by
  have h : (bigSep Finset.univ fun ck : Dev nD × CK => (reached ER (kcell ck) 0 : sProp 𝕄))
    ⊢ reached ER (kcell ck) 0 := bigSep_elim (Finset.mem_univ ck)
  unfold records
  iintro ⟨-, H⟩
  iapply h
  iexact H

variable (K : Dev nD × CK → ℕ)

/-! ## The handshake -/

theorem wp_signal (c : Dev nD) (e : Fin 7) (O : CellTallies nD τ sig Unit) (W : Waits sig Unit)
    (k : KProg F) (Q : PUnit → sProp 𝕄) :
    iprop(records m K ∗ owes (c : Thread nD τ) (O + tallyAt (barCell (peer c e)) () 1) W
        ∗ dutyTok ER (barCell (peer c e)) 0 e ∗ ∃ f, gPts c e.rev f)
      ⊢ iprop((owes (c : Thread nD τ) O W -∗ WP c k Q) -∗ WP c (signal c e k) Q) := by
  unfold signal
  rw [bdev_eq]
  iintro ⟨#HR, HO, Ht, Hg⟩ Hk
  iapply (Rounds.wp_signal 𝒱₀ ER (Rd m) (c : Thread nD τ) none (dst := (peer c e : Thread nD τ))
      (κ := K (peer c e, .inl ())) (d := e) (by rw [duties_bar]; exact Finset.mem_univ _)
      ((amount_bar m (peer c e) e).trans (by decide)) () O rfl) $$ [HO Ht Hg]
  · isplitr; · iapply (inv_at m K (peer c e, .inl ())); iexact HR
    isplitl [HO]; · iexact HO
    isplitl [Ht]; · iexact Ht
    isplitl [Hg]
    · rw [payload_bar]; unfold barPay; rw [peer_rev, back_peer]; iexact Hg
    · iapply (reached_at m K (peer c e, .inl ())); iexact HR
  iexact Hk

theorem wp_barWait (c : Dev nD) (O : CellTallies nD τ sig Unit) (hO : Above 1 O) (W : Waits sig Unit)
    (k : KProg F) (Q : PUnit → sProp 𝕄) :
    iprop(records m K ∗ levAts L lv ∗ owes (c : Thread nD τ) O W
        ∗ cred (tallyAt (barCell c) () 7) ∗ atPos ER (barCell c) 0 ∅ 0)
      ⊢ iprop(((owes (c : Thread nD τ) O (insert (SemLoc.reg barS.sem, ()) W) ∗ semVal (barCell c) 0
          ∗ bigSep Finset.univ fun e : Fin 7 => iprop(∃ f, gPts (F := F) (peer c e) e f)) -∗ WP c k Q)
        -∗ WP c (barWait k) Q) := by
  unfold barWait
  iintro ⟨#HR, #Hlev, HO, Hc, Hat⟩ Hk
  iapply (Rounds.wp_wait_rest_token 𝒱₀ ER (Rd m) (c : Thread nD τ) none (κ := K (c, .inl ()))
      (wpE_semWait_eq 𝒱₀ (c : Thread nD τ) none Set.univ) (Set.mem_univ _) () (O := O) (W := W) (R := 0) (m := 0) (T := ∅)
      (by rw [expect_bar]; decide)) $$ [Hc HO Hat]
  · isplitr; · iapply (inv_at m K (c, .inl ())); iexact HR
    isplitl [Hc]; · iexact Hc
    isplitl [HO]; · iexact HO
    isplitr; · iapply (mayWait c _ 1 (le_refl _) O hO); iexact Hlev
    iexact Hat
  iintro ⟨HO, Hat, -, Hpay⟩
  ihave Hp := (Entails.of_eq (rest_bar m c)) $$ Hpay
  imod (Rounds.cell_close ER (Rd m) (Set.mem_univ (K (c, .inl ()))) (fun h => h) (R := 0 + 1) (duties_later m (barCell c))) $$ [Hat] with Hz
  · isplitr; · iapply (inv_at m K (c, .inl ())); iexact HR
    iexact Hat
  iapply Hk
  isplitl [HO]; · iexact HO
  isplitl [Hz]; · iexact Hz
  iexact Hp

/-! ## A send and its two waits -/

/-- The rows sent start at the target's block. -/
theorem soff_eq (c : Dev nD) (e : Fin 7) :
    k0_off2 c (BitVec.ofNat 32 (1 + e.val)) = ![512 * (peer c e).val, 0] := by
  revert c e; decide +kernel

/-- What lands is the target's gathered block. -/
theorem landed (c : Dev nD) (e : Fin 7) (f : Buf (Elt F) ((gBlk e).view.loc (peer c e : Thread nD τ))) :
    ∀ i ∈ (gBlk e).view.set, (gBlk e).view.write (Elt F) f ((sBlk c e).view.read (Elt F) (xsF m c)) Finset.univ i
      = xgF m (peer c e) i := by
  intro i hi
  obtain ⟨x, -, rfl⟩ := Finset.mem_map.mp hi
  rw [View.write_emb_of_mem _ _ (Finset.mem_univ x), View.read_apply]
  have h0 := idx2_lt0 (n0 := 512) (n1 := 512) x
  have h1 := idx2_lt1 (n0 := 512) (n1 := 512) x
  have hd : ((512 * (e.val + 1) + 1 * (x 1).val) / 512) = e.val + 1 := by omega
  have hm : ((512 * (e.val + 1) + 1 * (x 1).val) % 512) = (x 1).val := by omega
  show (xsF m c : S4096x512.Idx → Elt F .bf16) ((sBlk c e).view.emb x)
    = (xsF m (src (peer c e) ((512 * (e.val + 1) + 1 * (x 1).val) / 512)) : S4096x512.Idx → Elt F .bf16) _
  rw [hd, src_succ, back_peer]
  refine congrArg _ (funext fun a => Fin.ext ?_)
  have hs : ((sBlk c e).view.emb x a).val = k0_off2 c (BitVec.ofNat 32 (1 + e.val)) a + 1 * (x a).val := rfl
  rw [hs, soff_eq]
  fin_cases a
  · show 512 * (peer c e).val + 1 * (x 0).val = 512 * (peer c e).val + (0 + 1 * (x 0).val)
    omega
  · show 0 + 1 * (x 1).val = (512 * (e.val + 1) + 1 * (x 1).val) % 512
    rw [hm]; omega

theorem wp_send (c n : Dev nD) (e : Fin 7) (hn : n = peer c e) {k : PUnit → KProg F} {Q : PUnit → sProp 𝕄}
    (O : CellTallies nD τ sig Unit) (W : Waits sig Unit)
    (f : Buf (Elt F) ((gBlk e).view.loc (peer c e : Thread nD τ)))
    {hsc : (gBlk e : Memref sig (Dev.tc n : Thread nD τ).2.kind .vmem S512x512 .bf16).view.ref.isScScratch = false}
    {hsrc : (sBlk c e).view.WordExact} {hdst : (gBlk e).view.WordExact}
    {hsem : DmaTarget.Typed .vmem (.dma (recvSem e)) (.remote (Dev.tc n : Thread nD τ) (gBlk e) (.dma (sendSem e)) hsc)} :
    iprop(records m K ∗ sPts m c e ∗ gPts (peer c e) e f
        ∗ owes (c : Thread nD τ) (O + tallyAt (recvCell (peer c e) e) () N) W
        ∗ dutyTok ER (sendCell c e) 0 0 ∗ dutyTok ER (recvCell (peer c e) e) 0 0)
      ⊢ iprop(((cred (tallyAt (sendCell c e) () N) ∗ owes (c : Thread nD τ) O W) -∗ WP c (k ⟨⟩) Q)
        -∗ WP c (.op (.enqueueDma (sBlk c e) (.remote (Dev.tc n : Thread nD τ) (gBlk e) (.dma (sendSem e)) hsc)
          (.dma (recvSem e)) hsrc hdst hsem) k) Q) := by
  subst hn
  iintro ⟨#HR, Hs, Hg, HO, Ht1, Ht2⟩
  unfold sPts gPts
  iapply (Rounds.wp_send_pointsTo 𝒱₀ ER (Rd m) (c : Thread nD τ) none (κ₁ := K (c, .inr (.inl e)))
    (κ₂ := K (peer c e, .inr (.inr e))) (r₁ := 0) (r₂ := 0) (d₁ := 0) (d₂ := 0) (fd := f)
    (by rw [duties_send]; exact Finset.mem_singleton_self _) (by rw [duties_recv]; exact Finset.mem_singleton_self _)
    () () N rfl (amount_send m c e 0) (amount_recv m (peer c e) e 0) O rfl (W := W)
    (by rw [payload_send]; unfold sPts; exact BI.Entails.refl _)
    (by rw [payload_recv]; unfold gPts; exact Entails.of_eq (pointsTo_congr (landed m c e f))))
  isplitr; · iapply (inv_at m K (c, .inr (.inl e))); iexact HR
  isplitr; · iapply (inv_at m K (peer c e, .inr (.inr e))); iexact HR
  isplitl [Hs]; · iexact Hs
  isplitl [Hg]; · iexact Hg
  isplitl [HO]; · iexact HO
  isplitl [Ht1]; · iexact Ht1
  isplitr; · iapply (reached_at m K (c, .inr (.inl e))); iexact HR
  isplitl [Ht2]; · iexact Ht2
  iapply (reached_at m K (peer c e, .inr (.inr e))); iexact HR

theorem wp_sendP (c : Dev nD) (e : Fin 7) (O : CellTallies nD τ sig Unit) (W : Waits sig Unit)
    (k : KProg F) (Q : PUnit → sProp 𝕄) :
    iprop(records m K ∗ sPts m c e ∗ (∃ f, gPts (peer c e) e f)
        ∗ owes (c : Thread nD τ) (O + tallyAt (recvCell (peer c e) e) () N) W
        ∗ dutyTok ER (sendCell c e) 0 0 ∗ dutyTok ER (recvCell (peer c e) e) 0 0)
      ⊢ iprop(((cred (tallyAt (sendCell c e) () N) ∗ owes (c : Thread nD τ) O W) -∗ WP c k Q)
        -∗ WP c (send c e k) Q) := by
  unfold send
  iintro ⟨HR, Hs, ⟨%f, Hg⟩, H⟩
  iapply (wp_send m K c (sdev c e) e (sdev_eq c e) (k := fun _ => k) (Q := Q) O W f)
  isplitl [HR]; · iexact HR
  isplitl [Hs]; · iexact Hs
  isplitl [Hg]; · iexact Hg
  iexact H

theorem wp_sent (c : Dev nD) (e : Fin 7) (O : CellTallies nD τ sig Unit) (hO : Above 0 O) (W : Waits sig Unit)
    (k : KProg F) (Q : PUnit → sProp 𝕄) :
    iprop(records m K ∗ levAts L lv ∗ owes (c : Thread nD τ) O W
        ∗ cred (tallyAt (sendCell c e) () N) ∗ atPos ER (sendCell c e) 0 ∅ 0)
      ⊢ iprop(((owes (c : Thread nD τ) O (insert (SemLoc.dma (sendSem e), ()) W) ∗ semVal (sendCell c e) 0
          ∗ sPts m c e) -∗ WP c k Q) -∗ WP c (sent c e k) Q) := by
  unfold sent
  iintro ⟨#HR, #Hlev, HO, Hc, Hat⟩ Hk
  iapply (Rounds.wp_wait_rest_token 𝒱₀ ER (Rd m) (c : Thread nD τ) none (κ := K (c, .inr (.inl e)))
      (wpE_waitDma2_eq 𝒱₀ (c : Thread nD τ) none Set.univ) (Set.mem_univ _) () (O := O) (W := W) (R := 0) (m := 0) (T := ∅)
      (by rw [Nat.zero_add, expect_send])) $$ [Hc HO Hat]
  · isplitr; · iapply (inv_at m K (c, .inr (.inl e))); iexact HR
    isplitl [Hc]; · iexact Hc
    isplitl [HO]; · iexact HO
    isplitr; · iapply (mayWait c _ 0 (lv_low c _ (rcvIx_send e)) O hO); iexact Hlev
    iexact Hat
  iintro ⟨HO, Hat, -, Hpay⟩
  ihave Hp := (Entails.of_eq (rest_send m c e)) $$ Hpay
  imod (Rounds.cell_close ER (Rd m) (Set.mem_univ (K (c, .inr (.inl e)))) (fun h => h) (R := 0 + 1) (duties_later m (sendCell c e))) $$ [Hat] with Hz
  · isplitr; · iapply (inv_at m K (c, .inr (.inl e))); iexact HR
    iexact Hat
  iapply Hk
  isplitl [HO]; · iexact HO
  isplitl [Hz]; · iexact Hz
  iexact Hp

theorem wp_got (c : Dev nD) (e : Fin 7) (W : Waits sig Unit) (k : KProg F) (Q : PUnit → sProp 𝕄) :
    iprop(records m K ∗ levAts L lv ∗ owes (c : Thread nD τ) 0 W
        ∗ cred (tallyAt (recvCell c e) () N) ∗ atPos ER (recvCell c e) 0 ∅ 0)
      ⊢ iprop(((owes (c : Thread nD τ) 0 (insert (SemLoc.dma (recvSem e), ()) W) ∗ semVal (recvCell c e) 0
          ∗ gPts c e (xgF m c)) -∗ WP c k Q) -∗ WP c (got c e k) Q) := by
  unfold got
  iintro ⟨#HR, #Hlev, HO, Hc, Hat⟩ Hk
  iapply (Rounds.wp_wait_rest_token 𝒱₀ ER (Rd m) (c : Thread nD τ) none (κ := K (c, .inr (.inr e)))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (inv_at m K (c, .inr (.inr e))); iexact HR
    isplitl [Hc]; · iexact Hc
    isplitl [HO]; · iexact HO
    isplitr; · iapply (mayWait c _ _ (le_refl _) 0 (above_zero _)); iexact Hlev
    iexact Hat
  iintro ⟨HO, Hat, -, Hpay⟩
  ihave Hp := (Entails.of_eq (rest_recv m c e)) $$ Hpay
  imod (Rounds.cell_close ER (Rd m) (Set.mem_univ (K (c, .inr (.inr e)))) (fun h => h) (R := 0 + 1) (duties_later m (recvCell c e))) $$ [Hat] with Hz
  · isplitr; · iapply (inv_at m K (c, .inr (.inr e))); iexact HR
    iexact Hat
  iapply Hk
  isplitl [HO]; · iexact HO
  isplitl [Hz]; · iexact Hz
  iexact Hp

end Cert.KernelIdeal.Proto

end

end
-- ==== Proof.Fetch.lean ====
module

public import proofs.«01_k».proof.Proof.Pieces

/-! # Fetching the weights

The weights stay off the core and are fetched block by block into two slots of four pieces each.
While a job's blocks are on the way its slot is *in flight*; otherwise it is *at rest*. -/

@[expose] public section

set_option maxRecDepth 16384

noncomputable section

namespace Cert.KernelIdeal.Proto

open Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Two facts about finite products -/

section
variable {I : Type} [Fintype I] [DecidableEq I]

omit [FloatOps F] in
/-- Taking one factor out and putting another in its place. -/
theorem bigSep_swap (Φ Ψ : I → sProp 𝕄) (i : I) (h : ∀ j, j ≠ i → Φ j = Ψ j) :
    bigSep Finset.univ Φ ⊢ iprop(Φ i ∗ (Ψ i -∗ bigSep Finset.univ Ψ)) := by
  rw [bigSep_univ_at Φ i, bigSep_univ_at Ψ i,
    bigSep_congr (s := Finset.univ.erase i) (Φ := Φ) (Ψ := Ψ) fun j hj => h j (Finset.ne_of_mem_erase hj)]
  iintro ⟨Hi, Hr⟩
  isplitl [Hi]; · iexact Hi
  iintro Hi
  isplitl [Hi]; · iexact Hi
  iexact Hr
end

omit [FloatOps F] in
/-- A product over the first `n` of four, completed to all four. -/
theorem bigSep_four (n : ℕ) (hn : n ≤ 4) (D : Fin 4 → sProp 𝕄) :
    (bigSep Finset.univ fun i : Fin n => D (Fin.castLE hn i))
      = bigSep Finset.univ fun i : Fin 4 => if i.val < n then D i else iprop(emp) := by
  refine Eq.trans ?_ (bigSep_filter Finset.univ (fun i : Fin 4 => i.val < n) D)
  rw [show (Finset.univ.filter fun i : Fin 4 => i.val < n) = Finset.univ.map (Fin.castLEEmb hn) from ?_,
    bigSep_map]
  · rfl
  · ext i
    simp only [Finset.mem_filter, Finset.mem_univ, true_and, Finset.mem_map]
    exact ⟨fun h => ⟨⟨i.val, h⟩, rfl⟩, fun ⟨j, hj⟩ => hj ▸ j.isLt⟩

/-! ## The pieces -/

theorem nb_le (p : Fin 3) : nb p ≤ 4 := by revert p; decide
theorem nb_pos (p : Fin 3) : 0 < nb p := by revert p; decide
theorem nb_blk (p : Fin 3) : b0 p + nb p ≤ 8 := by revert p; decide
theorem KK_nb (p : Fin 3) : KK p = 512 * nb p := by revert p; decide

/-- What a fetch counts for. -/
abbrev NB : ℕ := (bBlk 0 0).view.dmaCredit
theorem NB_pos : 0 < NB := View.dmaCredit_pos _ (by decide)
theorem NB_b (s : Fin 2) (i : Fin 4) : (bBlk s i).view.dmaCredit = NB := rfl

/-- The share of the weights lent to a piece's fetches. -/
def tk (s : Fin 2) (i : Fin 4) : PosShare TreeShare := Transfers.shareTokN fullShare (4 * s.val + i.val)

/-- A piece of a slot. -/
def bPts (c : Dev nD) (s : Fin 2) (i : Fin 4) (f : Buf (Elt F) ((c : Thread nD τ).loc cc0_scratch2)) : sProp 𝕄 :=
  (bBlk s i).view.loc (c : Thread nD τ) ↦[(bBlk s i).view.set]{fullShare} f
/-- The weights, at a piece's share. -/
def wTok (c : Dev nD) (s : Fin 2) (i : Fin 4) : sProp 𝕄 :=
  wM.view.loc (c : Thread nD τ) ↦[Finset.univ]{tk s i} wF m c
/-- One block of them, -/
def wPart (c : Dev nD) (s : Fin 2) (i : Fin 4) (b ch : Fin 8) : sProp 𝕄 :=
  (wBlk c b ch).view.loc (c : Thread nD τ) ↦[(wBlk c b ch).view.set]{tk s i} wF m c
/-- and the rest. -/
def wRest (c : Dev nD) (s : Fin 2) (i : Fin 4) (b ch : Fin 8) : sProp 𝕄 :=
  wM.view.loc (c : Thread nD τ) ↦[Finset.univ \ (wBlk c b ch).view.set]{tk s i} wF m c

theorem wTok_eq (c : Dev nD) (s : Fin 2) (i : Fin 4) (b ch : Fin 8) :
    (wTok m c s i : sProp 𝕄) ⊣⊢ iprop(wPart m c s i b ch ∗ wRest m c s i b ch) := by
  unfold wTok wPart wRest
  exact pointsTo_split_subset (Finset.subset_univ _)

omit [FloatOps F] in
instance bPts_storable (c : Dev nD) (s : Fin 2) (i : Fin 4) (f) : BI.Storable (upEmb : UEmb _ 𝕄) (bPts (F := F) c s i f) := by
  unfold bPts; infer_instance
instance wPart_storable (c : Dev nD) (s : Fin 2) (i : Fin 4) (b ch : Fin 8) :
    BI.Storable (upEmb : UEmb _ 𝕄) (wPart (F := F) m c s i b ch) := by
  unfold wPart; infer_instance

/-- A slot's contents once its blocks have landed: row `r` comes from block `r / 512` of the phase. -/
def wbF (c : Dev nD) (p : Fin 3) (ch : Fin 8) : (cc0_scratch2 : Ref sig .tc).ty.Contents (Elt F) :=
  fun (y : S2x2048x1024.Idx) =>
    (wF m c : S4096x8192.Idx → Elt F .f32)
      (ix2 ⟨512 * (src c (b0 p + (y 1).val / 512)).val + (y 1).val % 512,
          by have := (src c (b0 p + (y 1).val / 512)).isLt; have := Nat.mod_lt (y 1).val (by decide : 0 < 512); simp only [nD] at *; omega⟩
        ⟨1024 * ch.val + (y 2).val, by have h : (y 2).val < 1024 := (y 2).isLt; have := ch.isLt; omega⟩)

/-- Where a piece's element lies in the two-slot buffer. -/
theorem bBlk_emb (s : Fin 2) (i : Fin 4) (x : S512x1024.Idx) :
    ((bBlk s i).view.emb x : S2x2048x1024.Idx)
      = ix3 s ⟨512 * i.val + (x 0).val, by have := i.isLt; have := idx2_lt0 x; omega⟩ (x 1) := by
  have h : Shape.reshapeEquiv (squeezes_S1x512x1024_S512x1024.numel_eq) x
      = (ix3 0 (x 0) (x 1) : S1x512x1024.Idx) :=
    Shape.reshapeEquiv_eq_of_rowMajor _ (by
      rw [Shape.rowMajor_val_three, Shape.rowMajor_val_two]
      show (0 * 512 + (x 0).val) * 1024 + (x 1).val = (x 0).val * 1024 + (x 1).val
      omega)
  show (Rect.unit (s := S2x2048x1024) ![s.val, 512 * i.val, 0] S1x512x1024.size (binb s i)).emb
    (Shape.reshapeEquiv (squeezes_S1x512x1024_S512x1024.numel_eq) x) = _
  rw [h]
  funext a
  refine Fin.ext ?_
  fin_cases a
  · show s.val + 1 * 0 = s.val; omega
  · show 512 * i.val + 1 * (x 0).val = 512 * i.val + (x 0).val; omega
  · show 0 + 1 * (x 1).val = (x 1).val; omega

theorem wBlk_emb (c : Dev nD) (b ch : Fin 8) (x : S512x1024.Idx) (a : Fin 2) :
    ((wBlk c b ch).view.emb x a).val = woff c b ch a + 1 * (x a).val := rfl

/-- What lands in a piece. -/
theorem landedW (c : Dev nD) (s : Fin 2) (p : Fin 3) (ch : Fin 8) (i : ℕ) (hi : i < nb p)
    (f : Buf (Elt F) ((bBlk s (pc i)).view.loc (c : Thread nD τ))) :
    ∀ y ∈ (bBlk s (pc i)).view.set,
      (bBlk s (pc i)).view.write (Elt F) f ((wBlk c (blk p i) ch).view.read (Elt F) (wF m c)) Finset.univ y = wbF m c p ch y := by
  intro y hy
  obtain ⟨x, -, rfl⟩ := Finset.mem_map.mp hy
  rw [View.write_emb_of_mem _ _ (Finset.mem_univ x), View.read_apply]
  have h0 := idx2_lt0 (n0 := 512) (n1 := 1024) x
  have h1 := idx2_lt1 (n0 := 512) (n1 := 1024) x
  have h4 := nb_le p
  have h8 := nb_blk p
  show (wF m c : S4096x8192.Idx → Elt F .f32) ((wBlk c (blk p i) ch).view.emb x)
    = wbF m c p ch ((bBlk s (pc i)).view.emb x : S2x2048x1024.Idx)
  rw [bBlk_emb]
  refine congrArg _ (funext fun a => Fin.ext ?_)
  rw [wBlk_emb, woff_eq]
  have e1 : (512 * (i % 4) + (x 0).val) / 512 = i := by omega
  have e2 : (512 * (i % 4) + (x 0).val) % 512 = (x 0).val := by omega
  fin_cases a
  · show 512 * ((c.val + (8 - (b0 p + i) % 8)) % 8) + 1 * (x 0).val
      = 512 * ((c.val + (8 - (b0 p + (512 * (i % 4) + (x 0).val) / 512) % 8)) % 8) + (512 * (i % 4) + (x 0).val) % 512
    rw [e1, e2]; omega
  · show 1024 * ch.val + 1 * (x 1).val = 1024 * ch.val + (x 1).val
    omega

/-! ## At rest and in flight -/

/-- What a block's arrival hands over. -/
def Dw (c : Dev nD) (s : Fin 2) (p : Fin 3) (ch : Fin 8) (i : ℕ) : sProp 𝕄 :=
  iprop(bPts c s (pc i) (wbF m c p ch) ∗ wPart m c s (pc i) (blk p i) ch)

instance Dw_storable (c : Dev nD) (s : Fin 2) (p : Fin 3) (ch : Fin 8) (i : ℕ) :
    BI.Storable (upEmb : UEmb _ 𝕄) (Dw (F := F) m c s p ch i) := by
  unfold Dw; infer_instance

/-- A piece at rest. -/
def restPc (c : Dev nD) (s : Fin 2) (i : Fin 4) : sProp 𝕄 := iprop((∃ f, bPts c s i f) ∗ wTok m c s i)
/-- What stays here of a piece while a fetch of `n` blocks is on the way. -/
def keepPc (c : Dev nD) (s : Fin 2) (p : Fin 3) (ch : Fin 8) (n : ℕ) (i : Fin 4) : sProp 𝕄 :=
  if i.val < n then wRest m c s i (blk p i.val) ch else restPc m c s i

abbrev EC : UEmb Counters (MT nD τ sig Unit (Elt F) ℕ UU ℕ) := countersEmb

/-- The fetches of a job under way: `j` of its `n` blocks sent for, `u` units waited for. -/
abbrev wBatch (c : Dev nD) (s : Fin 2) (p : Fin 3) (ch : Fin 8) (j u : ℕ) : sProp 𝕄 :=
  Transfers.Batch EC (c : Thread nD τ) (.dma (wSem s)) () NB (fun i : Fin (nb p) => Dw m c s p ch i.val) j u

/-- A slot at rest. -/
def idle (c : Dev nD) (s : Fin 2) : sProp 𝕄 :=
  iprop(semVal (wCell c s) 0 ∗ bigSep Finset.univ fun i : Fin 4 => restPc m c s i)
/-- A slot in flight. -/
def flight (c : Dev nD) (s : Fin 2) (p : Fin 3) (ch : Fin 8) : sProp 𝕄 :=
  iprop(wBatch m c s p ch (nb p) 0 ∗ bigSep Finset.univ fun i : Fin 4 => keepPc m c s p ch (nb p) i)

theorem wp_fetch1 (c : Dev nD) (s : Fin 2) (p : Fin 3) (ch : Fin 8) (i : ℕ) (hi : i < nb p)
    (k : KProg F) (Q : PUnit → sProp 𝕄) :
    iprop(restPc m c s (pc i) ∗ wBatch m c s p ch i 0)
      ⊢ iprop(((wRest m c s (pc i) (blk p i) ch ∗ wBatch m c s p ch (i + 1) 0) -∗ WP c k Q)
        -∗ WP c (fetch1 c s ch (blk p i) (pc i) k) Q) := by
  unfold fetch1 restPc
  iintro ⟨⟨⟨%f, Hb⟩, Hw⟩, HB⟩ Hk
  ihave Hw' := (wTok_eq m c s (pc i) (blk p i) ch).1 $$ Hw
  icases Hw' with ⟨Hp, Hr⟩
  iapply (Transfers.wp_dmaBatch EC 𝒱₀ (c : Thread nD τ) none (sm := .dma (wSem s)) (src := wBlk c (blk p i) ch) (dst := bBlk s (pc i)) (q := tk s (pc i)) (fs := wF m c) (fd := f)
    (Sd := (bBlk s (pc i)).view.set) (D := fun i : Fin (nb p) => Dw m c s p ch i.val) (j := i) (u := 0)
    (k := fun _ => k) (Q := Q) () NB (NB_b s (pc i)) (fun _ h => h) hi (Nat.zero_le _) ?hD) $$ [Hb Hp HB]
  case hD =>
    unfold Dw bPts wPart
    iintro ⟨Hb, Hp⟩
    isplitl [Hb]
    · iapply (Entails.of_eq (pointsTo_congr (landedW m c s p ch i hi f))); iexact Hb
    · iexact Hp
  · isplitl [Hp]; · unfold wPart; iexact Hp
    isplitl [Hb]; · unfold bPts; iexact Hb
    iexact HB
  iintro HB
  iapply Hk
  isplitl [Hr]; · iexact Hr
  iexact HB

theorem wp_fetchN (c : Dev nD) (s : Fin 2) (p : Fin 3) (ch : Fin 8) (Q : PUnit → sProp 𝕄) (k : KProg F) :
    ∀ (n i : ℕ), i + n = nb p →
    iprop(wBatch m c s p ch i 0 ∗ bigSep Finset.univ fun j : Fin 4 => keepPc m c s p ch i j)
      ⊢ iprop((flight m c s p ch -∗ WP c k Q) -∗ WP c (fetchN c s ch p n i k) Q)
  | 0, i, h => by
    obtain rfl : i = nb p := by omega
    unfold fetchN flight
    iintro H Hk
    iapply Hk
    iexact H
  | n + 1, i, h => by
    have hi : i < nb p := by omega
    have h4 := nb_le p
    have hv : (pc i).val = i := Nat.mod_eq_of_lt (by omega)
    have hlo : keepPc m c s p ch i (pc i) = restPc (F := F) m c s (pc i) := if_neg (by rw [hv]; omega)
    have hup : keepPc m c s p ch (i + 1) (pc i) = wRest (F := F) m c s (pc i) (blk p i) ch := by
      unfold keepPc; rw [if_pos (by rw [hv]; omega), hv]
    unfold fetchN
    iintro ⟨HB, Hs⟩ Hk
    ihave Hs' := (bigSep_swap (fun j : Fin 4 => keepPc m c s p ch i j) (fun j : Fin 4 => keepPc m c s p ch (i + 1) j) (pc i)
      (fun j hj => by
        have hne : j.val ≠ i := fun e => hj (Fin.ext (e.trans hv.symm))
        unfold keepPc
        by_cases hj' : j.val < i
        · rw [if_pos hj', if_pos (by omega)]
        · rw [if_neg hj', if_neg (by omega)])) $$ Hs
    icases Hs' with ⟨Hi, Hs⟩
    ihave Hi := (Entails.of_eq hlo) $$ Hi
    iapply (wp_fetch1 m c s p ch i hi) $$ [Hi HB]
    · isplitl [Hi]; · iexact Hi
      iexact HB
    iintro ⟨Hr, HB⟩
    ihave Hr := (Entails.of_eq hup.symm) $$ Hr
    ispecialize Hs $$ Hr
    iapply (wp_fetchN c s p ch Q k n (i + 1) (by omega)) $$ [HB Hs]
    · isplitl [HB]; · iexact HB
      iexact Hs
    iexact Hk

/-- The fetches of a job put its slot in flight. -/
theorem wp_fetchJ (c : Dev nD) (j : ℕ) (k : KProg F) (Q : PUnit → sProp 𝕄) :
    (idle m c (js j) : sProp 𝕄) ⊢ iprop((flight m c (js j) (jp j) (jc j) -∗ WP c k Q) -∗ WP c (fetchJ c j k) Q) := by
  unfold fetchJ idle
  iintro ⟨Hv, Hs⟩ Hk
  imod (Transfers.batch_alloc' EC (c : Thread nD τ) () NB (fun i : Fin (nb (jp j)) => Dw m c (js j) (jp j) (jc j) i.val) (E := Set.univ)) $$ Hv with HB
  iapply (wp_fetchN m c (js j) (jp j) (jc j) Q k (nb (jp j)) 0 (Nat.zero_add _)) $$ [HB Hs]
  · isplitl [HB]; · iexact HB
    iexact Hs
  iexact Hk

end Cert.KernelIdeal.Proto

end

end
-- ==== Proof.Narrow.lean ====
module

public import proofs.«01_k».proof.Proof.Fetch

/-! # Waiting for a job's blocks and narrowing them -/

@[expose] public section

set_option maxRecDepth 16384

noncomputable section

namespace Cert.KernelIdeal.Proto

open Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Waiting for a job's blocks -/

theorem wp_awaitN (c : Dev nD) (s : Fin 2) (p : Fin 3) (ch : Fin 8) (O : CellTallies nD τ sig Unit) (hO : Above 0 O)
    (Q : PUnit → sProp 𝕄) (k : KProg F) : ∀ (n i : ℕ) (W : Waits sig Unit), i + (n + 1) = nb p →
    iprop(wBatch m c s p ch (nb p) (NB * i) ∗ owes (c : Thread nD τ) O W ∗ levAts L lv)
      ⊢ iprop((((bigSep Finset.univ fun i : Fin (nb p) => Dw m c s p ch i.val) ∗ semVal (wCell c s) 0
            ∗ ∃ W', owes (c : Thread nD τ) O W') -∗ WP c k Q)
        -∗ WP c (awaitN c s ch p (n + 1) i k) Q)
  | 0, i, W, h => by
    unfold awaitN awaitN await1
    iintro ⟨HB, HO, #Hlev⟩ Hk
    iapply (Transfers.wp_waitBatchLastO EC 𝒱₀ (c : Thread nD τ) none (k := fun _ => k) (Q := Q)
      (srcw := wBlk c (blk p i) ch) (dstw := bBlk s (pc i)) () (N := NB) (NB_b s (pc i)) NB_pos
      (D := fun i : Fin (nb p) => Dw m c s p ch i.val) (u := NB * i)
      (by rw [← Nat.mul_succ]; exact congrArg _ h) (O := O) (W := W)) $$ [HB HO]
    · isplitl [HB]; · iexact HB
      isplitl [HO]; · iexact HO
      iapply (mayWait c _ 0 (lv_low c _ (rcvIx_w s)) O hO); iexact Hlev
    iintro ⟨HD, Hv, HO⟩
    iapply Hk
    isplitl [HD]; · iexact HD
    isplitl [Hv]; · iexact Hv
    iexists _; iexact HO
  | n + 1, i, W, h => by
    unfold awaitN await1
    iintro ⟨HB, HO, #Hlev⟩ Hk
    iapply (Transfers.wp_waitBatchO EC 𝒱₀ (c : Thread nD τ) none (k := fun _ => awaitN c s ch p (n + 1) (i + 1) k) (Q := Q)
      (srcw := wBlk c (blk p i) ch) (dstw := bBlk s (pc i)) () (N := NB) (NB_b s (pc i))
      (D := fun i : Fin (nb p) => Dw m c s p ch i.val) (u := NB * i)
      (by rw [← Nat.mul_succ]; exact Nat.mul_lt_mul_of_pos_left (by omega) NB_pos) (O := O) (W := W)) $$ [HB HO]
    · isplitl [HB]; · iexact HB
      isplitl [HO]; · iexact HO
      iapply (mayWait c _ 0 (lv_low c _ (rcvIx_w s)) O hO); iexact Hlev
    rw [← Nat.mul_succ]
    iintro ⟨HB, HO⟩
    iapply (wp_awaitN c s p ch O hO Q k n (i + 1) _ (by omega)) $$ [HB HO]
    · isplitl [HB]; · iexact HB
      isplitl [HO]; · iexact HO
      iexact Hlev
    iexact Hk

/-! ## Narrowing a slot -/

theorem mem_bBlk (s : Fin 2) (i : Fin 4) (y : S2x2048x1024.Idx) :
    y ∈ (bBlk s i).view.set ↔ (y 0).val = s.val ∧ 512 * i.val ≤ (y 1).val ∧ (y 1).val < 512 * i.val + 512 := by
  have h : (bBlk s i).view.set
      = (Rect.unit (s := S2x2048x1024) ![s.val, 512 * i.val, 0] S1x512x1024.size (binb s i)).set :=
    (View.set_reshape _ _).trans (View.set_slice_whole _ _)
  rw [h, Rect.mem_set_unit]
  constructor
  · intro H
    have h0 := H 0
    have h1 := H 1
    exact ⟨Nat.le_antisymm (Nat.lt_succ_iff.mp h0.2) h0.1, h1⟩
  · intro ⟨h0, h1⟩ a
    fin_cases a
    · exact ⟨h0.ge, h0 ▸ Nat.lt_succ_self _⟩
    · exact h1
    · exact ⟨Nat.zero_le _, by have : (y 2).val < 1024 := (y 2).isLt; exact (Nat.zero_add 1024).symm ▸ this⟩

theorem bBlk_disjoint (s s' : Fin 2) (i i' : Fin 4) (h : (s, i) ≠ (s', i')) :
    Disjoint ((bBlk s i).view.set : Finset S2x2048x1024.Idx) (bBlk s' i').view.set := by
  rw [Finset.disjoint_left]
  intro y hy hy'
  have h1 := (mem_bBlk s i y).mp hy
  have h2 := (mem_bBlk s' i' y).mp hy'
  have hi : i.val = i'.val := by omega
  exact h (Prod.ext (Fin.ext (h1.1.symm.trans h2.1)) (Fin.ext hi))

/-- A phase's rows of a slot. -/
theorem mem_slotR (s : Fin 2) (p : Fin 3) (y : S2x2048x1024.Idx) :
    y ∈ (slotR s p).set ↔ (y 0).val = s.val ∧ (y 1).val < KK p := by
  rw [Rect.mem_set_unit]
  constructor
  · intro H
    have h0 := H 0
    have h1 := H 1
    exact ⟨Nat.le_antisymm (Nat.lt_succ_iff.mp h0.2) h0.1, Nat.lt_of_lt_of_eq h1.2 (Nat.zero_add _)⟩
  · intro ⟨h0, h1⟩ a
    fin_cases a
    · exact ⟨h0.ge, h0 ▸ Nat.lt_succ_self _⟩
    · exact ⟨Nat.zero_le _, Nat.lt_of_lt_of_eq h1 (Nat.zero_add _).symm⟩
    · exact ⟨Nat.zero_le _, by have : (y 2).val < 1024 := (y 2).isLt; exact (Nat.zero_add 1024).symm ▸ this⟩

/-- The pieces of a phase. -/
abbrev bSets (s : Fin 2) (p : Fin 3) : Finset S2x2048x1024.Idx :=
  Finset.univ.biUnion fun i : Fin (nb p) => ((bBlk s (pc i.val)).view.set : Finset S2x2048x1024.Idx)

theorem slotR_sub (s : Fin 2) (p : Fin 3) : (slotR s p).set ⊆ bSets s p := by
  intro y hy
  have h := (mem_slotR s p y).mp hy
  have hk := KK_nb p
  have h4 := nb_le p
  have hlt : (y 1).val / 512 < nb p := by omega
  refine Finset.mem_biUnion.mpr ⟨⟨(y 1).val / 512, hlt⟩, Finset.mem_univ _, ?_⟩
  refine (mem_bBlk s _ y).mpr ⟨h.1, ?_⟩
  show 512 * ((y 1).val / 512 % 4) ≤ _ ∧ _ < 512 * ((y 1).val / 512 % 4) + 512
  have : (y 1).val / 512 % 4 = (y 1).val / 512 := Nat.mod_eq_of_lt (by omega)
  omega

theorem bSets_split (c : Dev nD) (s : Fin 2) (p : Fin 3) (f : Buf (Elt F) ((c : Thread nD τ).loc cc0_scratch2)) :
    (((c : Thread nD τ).loc cc0_scratch2 ↦[bSets s p]{fullShare} f) : sProp 𝕄)
      = bigSep Finset.univ fun i : Fin (nb p) => bPts c s (pc i.val) f := by
  unfold bPts
  refine pointsTo_biUnion _ _ fun i _ i' _ hne => bBlk_disjoint s s _ _ fun e => hne (Fin.ext ?_)
  have h4 := nb_le p
  have e' : i.val % 4 = i'.val % 4 := congrArg Fin.val (Prod.mk.inj e).2
  have := i.isLt; have := i'.isLt
  omega

/-- A slot of the narrowed weights. -/
def rPts (c : Dev nD) (s : Fin 2) (g : Buf (Elt F) ((c : Thread nD τ).loc cc0_scratch3)) : sProp 𝕄 :=
  (c : Thread nD τ).loc cc0_scratch3 ↦[(slotR s 2).set]{fullShare} g
/-- The narrowed weights of a phase and chunk. -/
def wv (c : Dev nD) (s : Fin 2) (p : Fin 3) (ch : Fin 8) : Vec F (SW p) .bf16 :=
  narrow p (bM.view.readAt (Elt F) (slotR s p).toLoadRect (wbF m c p ch))
/-- A slot holding them. -/
def rHas (c : Dev nD) (s : Fin 2) (p : Fin 3) (ch : Fin 8) : sProp 𝕄 :=
  iprop(∃ g, ⌜rM.view.readAt (Elt F) (slotR s p).toLoadRect g = wv m c s p ch⌝ ∗ rPts c s g)

theorem KK_le (p : Fin 3) : KK p ≤ KK 2 := by revert p; decide

theorem slotR_le (s : Fin 2) (p : Fin 3) : (slotR s p).set ⊆ (slotR s 2).set := by
  intro y hy
  have h := (mem_slotR s p y).mp hy
  exact (mem_slotR s 2 y).mpr ⟨h.1, Nat.lt_of_lt_of_le h.2 (KK_le p)⟩

omit [FloatOps F] in
theorem bM_set (s : Fin 2) (p : Fin 3) : (bM.access (slotR s p)).set = (slotR s p).set := View.set_slice_whole _ _
omit [FloatOps F] in
theorem rM_set (s : Fin 2) (p : Fin 3) : (rM.access (slotR s p)).set = (slotR s p).set := View.set_slice_whole _ _

theorem wp_conv (c : Dev nD) (s : Fin 2) (p : Fin 3) (ch : Fin 8) (Q : PUnit → sProp 𝕄) (k : KProg F) :
    iprop((((c : Thread nD τ).loc cc0_scratch2) ↦[bSets s p]{fullShare} wbF m c p ch) ∗ ∃ g, rPts c s g)
      ⊢ iprop((((((c : Thread nD τ).loc cc0_scratch2) ↦[bSets s p]{fullShare} wbF m c p ch) ∗ rHas m c s p ch) -∗ WP c k Q)
        -∗ WP c (conv s p k) Q) := by
  unfold conv
  iintro ⟨Hb, ⟨%g, Hr⟩⟩ Hk
  unfold rPts
  iapply (wp_load 𝒱₀ (c : Thread nD τ) none Set.univ (m := bM) ((bM.view.set_slice (slotR s p)).symm.trans_subset ((bM_set s p).trans_subset (slotR_sub s p)))) $$ Hb
  iintro Hb
  iapply (wp_load 𝒱₀ (c : Thread nD τ) none Set.univ (m := rM) ((rM.view.set_slice (slotR s p)).symm.trans_subset ((rM_set s p).trans_subset (slotR_le s p)))) $$ Hr
  iintro Hr
  iapply (wp_store 𝒱₀ (c : Thread nD τ) none Set.univ (m := rM) (r := slotR s p) (Mk := Finset.univ)
    ((rM_set s p).trans_subset (slotR_le s p))) $$ Hr
  iintro Hr
  iapply Hk
  isplitl [Hb]; · iexact Hb
  unfold rHas rPts
  iexists ((rM.access (slotR s p)).write (Elt F) g
    (narrow p (bM.view.readAt (Elt F) (slotR s p).toLoadRect (wbF m c p ch))) Finset.univ)
  isplitr
  · ipureintro; exact View.read_write_univ _ _
  · iexact Hr

/-- A job's waits and narrowing: its slot comes to rest, and its narrowed weights are there. -/
theorem wp_convSlot (c : Dev nD) (s : Fin 2) (p : Fin 3) (ch : Fin 8) (O : CellTallies nD τ sig Unit) (hO : Above 0 O)
    (W : Waits sig Unit) (Q : PUnit → sProp 𝕄) (k : KProg F) :
    iprop(flight m c s p ch ∗ owes (c : Thread nD τ) O W ∗ levAts L lv ∗ ∃ g, rPts c s g)
      ⊢ iprop(((idle m c s ∗ rHas m c s p ch ∗ ∃ W', owes (c : Thread nD τ) O W') -∗ WP c k Q)
        -∗ WP c (awaitN c s ch p (nb p) 0 (conv s p k)) Q) := by
  obtain ⟨n, hn⟩ : ∃ n, nb p = n + 1 := ⟨nb p - 1, by have := nb_pos p; omega⟩
  have hD : (bigSep Finset.univ fun i : Fin (nb p) => Dw (F := F) m c s p ch i.val)
      = iprop((((c : Thread nD τ).loc cc0_scratch2) ↦[bSets s p]{fullShare} wbF m c p ch)
        ∗ bigSep Finset.univ fun i : Fin (nb p) => wPart m c s (pc i.val) (blk p i.val) ch) := by
    rw [bSets_split, ← bigSep_sep']; rfl
  have hrest : ∀ i : Fin 4, iprop((bPts (F := F) c s i (wbF m c p ch) ∗ wPart m c s i (blk p i.val) ch)
      ∗ wRest m c s i (blk p i.val) ch) ⊢ restPc m c s i := fun i => by
    unfold restPc
    iintro ⟨⟨Hb, Hp⟩, Hr⟩
    isplitl [Hb]; · iexists _; iexact Hb
    iapply (wTok_eq m c s i (blk p i.val) ch).2
    isplitl [Hp]; · iexact Hp
    iexact Hr
  have hkeep : ∀ i : Fin 4, iprop(emp ∗ restPc (F := F) m c s i) ⊢ restPc m c s i := fun i => by
    iintro ⟨-, H⟩
    iexact H
  have hback : iprop(((bigSep Finset.univ fun i : Fin (nb p) => bPts (F := F) c s (pc i.val) (wbF m c p ch))
        ∗ bigSep Finset.univ fun i : Fin (nb p) => wPart m c s (pc i.val) (blk p i.val) ch)
        ∗ bigSep Finset.univ fun i : Fin 4 => keepPc m c s p ch (nb p) i)
      ⊢ bigSep Finset.univ fun i : Fin 4 => restPc m c s i := by
    have hpc : ∀ i : Fin (nb p), pc i.val = Fin.castLE (nb_le p) i := fun i =>
      Fin.ext (Nat.mod_eq_of_lt (Nat.lt_of_lt_of_le i.isLt (nb_le p)))
    rw [← bigSep_sep']
    simp only [hpc]
    rw [show (bigSep Finset.univ fun i : Fin (nb p) => iprop(bPts (F := F) c s (Fin.castLE (nb_le p) i) (wbF m c p ch)
          ∗ wPart m c s (Fin.castLE (nb_le p) i) (blk p i.val) ch))
        = _ from bigSep_four (nb p) (nb_le p) fun i => iprop(bPts (F := F) c s i (wbF m c p ch) ∗ wPart m c s i (blk p i.val) ch),
      ← bigSep_sep']
    refine bigSep_mono fun i _ => ?_
    unfold keepPc
    by_cases h : i.val < nb p
    · rw [if_pos h, if_pos h]
      exact hrest i
    · rw [if_neg h, if_neg h]
      exact hkeep i
  unfold flight
  iintro ⟨⟨HB, Hs⟩, HO, #Hlev, Hr⟩ Hk
  rw [show awaitN c s ch p (nb p) 0 (conv s p k) = awaitN c s ch p (n + 1) 0 (conv s p k) by rw [hn]]
  iapply (wp_awaitN m c s p ch O hO Q _ n 0 W ((Nat.zero_add _).trans hn.symm)) $$ [HB HO]
  · isplitl [HB]; · iexact HB
    isplitl [HO]; · iexact HO
    iexact Hlev
  iintro ⟨HD, Hv, HO⟩
  ihave HD := (Entails.of_eq hD) $$ HD
  icases HD with ⟨Hb, Hp⟩
  iapply (wp_conv m c s p ch) $$ [Hb Hr]
  · isplitl [Hb]; · iexact Hb
    iexact Hr
  iintro ⟨Hb, Hr⟩
  iapply Hk
  isplitl [Hb Hp Hs Hv]
  · unfold idle
    isplitl [Hv]; · iexact Hv
    iapply hback
    isplitl [Hb Hp]
    · isplitl [Hb]
      · iapply (Entails.of_eq (bSets_split c s p (wbF m c p ch))); iexact Hb
      · iexact Hp
    · iexact Hs
  isplitl [Hr]; · iexact Hr
  iexact HO

end Cert.KernelIdeal.Proto

end

end
-- ==== Proof.Compute.lean ====
module

public import proofs.«01_k».proof.Proof.Narrow

/-! # The shard and the products

Narrowing the shard, keeping the device's own rows, and what a job's product stores. -/

@[expose] public section

set_option maxRecDepth 16384

noncomputable section

namespace Cert.KernelIdeal.Proto

open Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The gathered rows -/

/-- The columns of a phase, held as gathered. -/
def gatPts (c : Dev nD) (p : Fin 3) : sProp 𝕄 :=
  (c : Thread nD τ).loc cc0_scratch1 ↦[(gatR p).set]{fullShare} xgF m c

/-- The phase's gathered rows. -/
def xv (c : Dev nD) (p : Fin 3) : Vec F (SX p) .bf16 := gM.view.readAt (Elt F) (gatR p).toLoadRect (xgF m c)

omit [FloatOps F] in
theorem gM_set (p : Fin 3) : gM.view.setOn (gatR p).toLoadRect.set = (gatR p).set :=
  (gM.view.set_slice (gatR p)).symm.trans (View.set_slice_whole _ _)

theorem mem_gatR (p : Fin 3) (y : S512x4096.Idx) : y ∈ (gatR p).set ↔ K0 p ≤ (y 1).val ∧ (y 1).val < K0 p + KK p := by
  rw [Rect.mem_set_unit]
  constructor
  · intro H; exact H 1
  · intro h a
    fin_cases a
    · exact ⟨Nat.zero_le _, by have := idx2_lt0 (n0 := 512) (n1 := 4096) y; exact (Nat.zero_add 512).symm ▸ this⟩
    · exact h

/-! ## The shard -/

/-- The shard's staging buffer. -/
def xPts (c : Dev nD) : sProp 𝕄 := (c : Thread nD τ).loc cc0_stg0_0 ↦{fullShare} xstg m c
/-- The narrowed shard's buffer, whole. -/
def sAll (c : Dev nD) (f : Buf (Elt F) ((c : Thread nD τ).loc cc0_scratch0)) : sProp 𝕄 :=
  (c : Thread nD τ).loc cc0_scratch0 ↦{fullShare} f

omit [FloatOps F] in
theorem zero2 : (![0, 0] : Fin 2 → ℕ) = fun _ => 0 := by decide

theorem wp_shard (c : Dev nD) (Q : PUnit → sProp 𝕄) (k : KProg F) :
    iprop(xPts m c ∗ ∃ f, sAll c f)
      ⊢ iprop(((xPts m c ∗ sAll c (xsF m c)) -∗ WP c k Q) -∗ WP c (shard k) Q) := by
  unfold shard xPts sAll
  iintro ⟨Hx, ⟨%f, Hs⟩⟩ Hk
  iapply (wp_load 𝒱₀ (c : Thread nD τ) none Set.univ (m := xM) (Finset.subset_univ _)) $$ Hx
  iintro Hx
  iapply (wp_load 𝒱₀ (c : Thread nD τ) none Set.univ (m := sM) (Finset.subset_univ _)) $$ Hs
  iintro Hs
  iapply (wp_store 𝒱₀ (c : Thread nD τ) none Set.univ (m := sM)
    (r := Rect.unit (s := S4096x512) ![0, 0] S4096x512.size inb_S4096x512_S4096x512_0_0) (Mk := Finset.univ) (Finset.subset_univ _)) $$ Hs
  iintro Hs
  iapply Hk
  isplitl [Hx]; · iexact Hx
  have h1 : (sM.access (Rect.unit (s := S4096x512) ![0, 0] S4096x512.size inb_S4096x512_S4096x512_0_0)).write (Elt F) f
      (k0_pay1 (xM.view.readAt (Elt F) (Rect.unit (s := S4096x512) ![0, 0] S4096x512.size inb_S4096x512_S4096x512_0_0).toLoadRect
        (xstg m c))) Finset.univ = xsF m c :=
    (Memref.write_access_unit_zero_univ (Elt F) cc0_scratch0 zero2 _ f _).trans
      (congrArg k0_pay1 (Memref.readAt_unit_zero (Elt F) cc0_stg0_0 zero2 _ (xstg m c)))
  iapply (Entails.of_eq (congrArg (fun g : Buf (Elt F) ((c : Thread nD τ).loc cc0_scratch0) =>
    ((c : Thread nD τ).loc cc0_scratch0 ↦{fullShare} g : sProp 𝕄)) h1)) $$ Hs

/-- The own rows start at the device's block. -/
theorem ooff_eq (c : Dev nD) : k0_off1 c = ![512 * c.val, 0] := by
  revert c; decide +kernel

theorem wp_ownRows (c : Dev nD) (Q : PUnit → sProp 𝕄) (k : KProg F) :
    iprop(sAll c (xsF m c) ∗ ∃ f, (c : Thread nD τ).loc cc0_scratch1 ↦[(gatR 0).set]{fullShare} f)
      ⊢ iprop(((sAll c (xsF m c) ∗ gatPts m c 0) -∗ WP c k Q) -∗ WP c (ownRows c k) Q) := by
  unfold ownRows sAll gatPts
  iintro ⟨Hs, ⟨%f, Hg⟩⟩ Hk
  iapply (wp_load 𝒱₀ (c : Thread nD τ) none Set.univ (m := sM) (Finset.subset_univ _)) $$ Hs
  iintro Hs
  iapply (wp_load 𝒱₀ (c : Thread nD τ) none Set.univ (m := gM) ((gM_set 0).trans_subset (fun _ h => h))) $$ Hg
  iintro Hg
  iapply (wp_store 𝒱₀ (c : Thread nD τ) none Set.univ (m := gM) (r := gatR 0) (Mk := Finset.univ)
    ((View.set_slice_whole _ _).trans_subset (fun _ h => h))) $$ Hg
  iintro Hg
  iapply Hk
  isplitl [Hs]; · iexact Hs
  iapply (Entails.of_eq (pointsTo_congr ?_)) $$ Hg
  intro y hy
  obtain ⟨x, -, rfl⟩ := Finset.mem_map.mp ((View.set_slice_whole cc0_scratch1 (gatR 0)).symm ▸ hy)
  refine (View.write_emb_of_mem _ _ (Finset.mem_univ x)).trans ?_
  have h0 := idx2_lt0 (n0 := 512) (n1 := 512) x
  have h1 := idx2_lt1 (n0 := 512) (n1 := 512) x
  have hd : ((0 + 1 * (x 1).val) / 512) = 0 := by omega
  show shapeCast S512x512 (sM.view.readAt (Elt F) (Rect.unit (s := S4096x512) (k0_off1 c) S512x512.size (k0_off1_inb c)).toLoadRect
      (xsF m c)) shapeCasts_S512x512_S512x512 x
    = (xsF m (src c ((0 + 1 * (x 1).val) / 512)) : S4096x512.Idx → Elt F .bf16) _
  rw [hd, src_zero]
  refine (congrFun (shapeCast_self _ _) x).trans ?_
  show (xsF m c : S4096x512.Idx → Elt F .bf16)
    ((Rect.unit (s := S4096x512) (k0_off1 c) S512x512.size (k0_off1_inb c)).emb x) = _
  refine congrArg _ (funext fun a => Fin.ext ?_)
  rw [Rect.emb_apply]
  show k0_off1 c a + 1 * (x a).val = _
  rw [ooff_eq]
  fin_cases a
  · show 512 * c.val + 1 * (x 0).val = 512 * c.val + (0 + 1 * (x 0).val)
    omega
  · show 0 + 1 * (x 1).val = (0 + 1 * (x 1).val) % 512
    omega

/-! ## The products -/

/-- What a chunk holds after a phase. -/
def accP (c : Dev nD) (ch : Fin 8) : Fin 3 → FVec F S512x1024 .bf16
  | 0 => stage0 (xv m c 0) (wv m c ⟨ch.val % 2, Nat.mod_lt _ (by decide)⟩ 0 ch)
  | 1 => stageN 1 (xv m c 1) (wv m c ⟨ch.val % 2, Nat.mod_lt _ (by decide)⟩ 1 ch)
    (stage0 (xv m c 0) (wv m c ⟨ch.val % 2, Nat.mod_lt _ (by decide)⟩ 0 ch))
  | 2 => stageN 2 (xv m c 2) (wv m c ⟨ch.val % 2, Nat.mod_lt _ (by decide)⟩ 2 ch)
    (stageN 1 (xv m c 1) (wv m c ⟨ch.val % 2, Nat.mod_lt _ (by decide)⟩ 1 ch)
      (stage0 (xv m c 0) (wv m c ⟨ch.val % 2, Nat.mod_lt _ (by decide)⟩ 0 ch)))

/-- A chunk of the result's buffer. -/
abbrev outCh (c : Dev nD) (ch : Fin 8) (f : Buf (Elt F) ((c : Thread nD τ).loc cc0_stg1_0)) : Vec F S512x1024 .bf16 :=
  oM.view.readAt (Elt F) (outR ch).toLoadRect f

/-- Before job `j`: every chunk holds what its last finished phase left. -/
def OutOk (c : Dev nD) (j : ℕ) (f : Buf (Elt F) ((c : Thread nD τ).loc cc0_stg1_0)) : Prop :=
  ∀ (p : Fin 3) (ch : Fin 8), 8 * p.val + ch.val < j → j ≤ 8 * p.val + 8 + ch.val → outCh c ch f = accP m c ch p

def oHas (c : Dev nD) (j : ℕ) : sProp 𝕄 :=
  iprop(∃ f, ⌜OutOk m c j f⌝ ∗ (c : Thread nD τ).loc cc0_stg1_0 ↦{fullShare} f)

theorem outR_disjoint (ch ch' : Fin 8) (h : ch ≠ ch') : Disjoint (oM.access (outR ch)).set (oM.access (outR ch')).set := by
  rw [Finset.disjoint_left]
  intro y hy hy'
  rw [show (oM.access (outR ch)).set = (outR ch).set from View.set_slice_whole _ _, Rect.mem_set_unit] at hy
  rw [show (oM.access (outR ch')).set = (outR ch').set from View.set_slice_whole _ _, Rect.mem_set_unit] at hy'
  have h1 : 1024 * ch.val ≤ (y 1).val ∧ (y 1).val < 1024 * ch.val + 1024 := hy 1
  have h2 : 1024 * ch'.val ≤ (y 1).val ∧ (y 1).val < 1024 * ch'.val + 1024 := hy' 1
  exact h (Fin.ext (by omega))

theorem OutOk.write {c : Dev nD} {j : ℕ} {f : Buf (Elt F) ((c : Thread nD τ).loc cc0_stg1_0)} (hf : OutOk m c j f)
    (p : Fin 3) (ch : Fin 8) (hj : j = 8 * p.val + ch.val) :
    OutOk m c (j + 1) ((oM.access (outR ch)).write (Elt F) f (accP m c ch p) Finset.univ) := by
  intro p' ch' hlo hhi
  have hc := ch.isLt
  have hc' := ch'.isLt
  by_cases h : ch' = ch
  · subst h
    obtain rfl : p' = p := Fin.ext (by omega)
    exact View.read_write_univ _ _
  · have hne : ch'.val ≠ ch.val := fun e => h (Fin.ext e)
    exact (View.read_slice_write_slice_of_disjoint (v := oM.view) (outR ch') (outR ch) f (accP m c ch p) Finset.univ (outR_disjoint ch' ch h)).trans
      (hf p' ch' (by omega) (by omega))

theorem wp_dotA (c : Dev nD) (ch : Fin 8) (s : Fin 2) (hs : s = ⟨ch.val % 2, Nat.mod_lt _ (by decide)⟩)
    (j : ℕ) (hj : j = ch.val) (Q : PUnit → sProp 𝕄) (k : KProg F) :
    iprop(gatPts m c 0 ∗ rHas m c s 0 ch ∗ oHas m c j)
      ⊢ iprop(((gatPts m c 0 ∗ (∃ g, rPts c s g) ∗ oHas m c (j + 1)) -∗ WP c k Q) -∗ WP c (dotA s ch k) Q) := by
  unfold dotA gatPts rHas oHas rPts
  iintro ⟨Hx, ⟨%g, %hg, Hr⟩, ⟨%f, %hf, Ho⟩⟩ Hk
  iapply (wp_load 𝒱₀ (c : Thread nD τ) none Set.univ (m := gM) ((gM_set 0).trans_subset (fun _ h => h))) $$ Hx
  iintro Hx
  iapply (wp_load 𝒱₀ (c : Thread nD τ) none Set.univ (m := rM) ((rM.view.set_slice (slotR s 0)).symm.trans_subset ((rM_set s 0).trans_subset (slotR_le s 0)))) $$ Hr
  iintro Hr
  rw [hg]
  iapply (wp_load 𝒱₀ (c : Thread nD τ) none Set.univ (m := oM) (Finset.subset_univ _)) $$ Ho
  iintro Ho
  iapply (wp_store 𝒱₀ (c : Thread nD τ) none Set.univ (m := oM) (r := outR ch) (Mk := Finset.univ) (Finset.subset_univ _)) $$ Ho
  iintro Ho
  iapply Hk
  isplitl [Hx]; · iexact Hx
  isplitl [Hr]; · iexists _; iexact Hr
  iexists ((oM.access (outR ch)).write (Elt F) f (accP m c ch 0) Finset.univ)
  isplitr
  · ipureintro; exact hf.write m 0 ch (hj.trans (Nat.zero_add _).symm)
  · subst hs; iexact Ho

theorem accP_succ (c : Dev nD) (ch : Fin 8) (p p' : Fin 3) (h : p.val = p'.val + 1) :
    accP m c ch p = stageN p (xv m c p) (wv m c ⟨ch.val % 2, Nat.mod_lt _ (by decide)⟩ p ch) (accP m c ch p') := by
  match p, p', h with
  | 1, 0, _ => rfl
  | 2, 1, _ => rfl

theorem wp_dotB (c : Dev nD) (p p' : Fin 3) (hp : p.val = p'.val + 1) (ch : Fin 8) (s : Fin 2)
    (hs : s = ⟨ch.val % 2, Nat.mod_lt _ (by decide)⟩)
    (j : ℕ) (hj : j = 8 * p.val + ch.val) (Q : PUnit → sProp 𝕄) (k : KProg F) :
    iprop(gatPts m c p ∗ rHas m c s p ch ∗ oHas m c j)
      ⊢ iprop(((gatPts m c p ∗ (∃ g, rPts c s g) ∗ oHas m c (j + 1)) -∗ WP c k Q) -∗ WP c (dotB p s ch k) Q) := by
  unfold dotB gatPts rHas oHas rPts
  iintro ⟨Hx, ⟨%g, %hg, Hr⟩, ⟨%f, %hf, Ho⟩⟩ Hk
  iapply (wp_load 𝒱₀ (c : Thread nD τ) none Set.univ (m := gM) ((gM_set p).trans_subset (fun _ h => h))) $$ Hx
  iintro Hx
  iapply (wp_load 𝒱₀ (c : Thread nD τ) none Set.univ (m := rM) ((rM.view.set_slice (slotR s p)).symm.trans_subset ((rM_set s p).trans_subset (slotR_le s p)))) $$ Hr
  iintro Hr
  rw [hg]
  iapply (wp_load 𝒱₀ (c : Thread nD τ) none Set.univ (m := oM) (Finset.subset_univ _)) $$ Ho
  iintro Ho
  rw [show oM.view.readAt (Elt F) (outR ch).toLoadRect f = accP m c ch p' from hf p' ch (by omega) (by omega)]
  iapply (wp_load 𝒱₀ (c : Thread nD τ) none Set.univ (m := oM) (Finset.subset_univ _)) $$ Ho
  iintro Ho
  iapply (wp_store 𝒱₀ (c : Thread nD τ) none Set.univ (m := oM) (r := outR ch) (Mk := Finset.univ) (Finset.subset_univ _)) $$ Ho
  iintro Ho
  iapply Hk
  isplitl [Hx]; · iexact Hx
  isplitl [Hr]; · iexists _; iexact Hr
  iexists ((oM.access (outR ch)).write (Elt F) f (accP m c ch p) Finset.univ)
  isplitr
  · ipureintro; exact hf.write m p ch hj
  · subst hs; rw [accP_succ m c ch p p' hp]; iexact Ho

/-- A job's product. -/
theorem wp_dotJ (c : Dev nD) (j : ℕ) (hj : j < 24) (Q : PUnit → sProp 𝕄) (k : KProg F) :
    iprop(gatPts m c (jp j) ∗ rHas m c (js j) (jp j) (jc j) ∗ oHas m c j)
      ⊢ iprop(((gatPts m c (jp j) ∗ (∃ g, rPts c (js j) g) ∗ oHas m c (j + 1)) -∗ WP c k Q) -∗ WP c (dotJ j k) Q) := by
  have hs : js j = ⟨(jc j).val % 2, Nat.mod_lt _ (by decide)⟩ := Fin.ext (by show j % 2 = j % 8 % 2; omega)
  have e : j = 8 * (jp j).val + (jc j).val := by show j = 8 * (j / 8 % 3) + j % 8; omega
  unfold dotJ
  generalize hp : jp j = p at e
  generalize jc j = ch at e hs
  generalize js j = s at hs
  match p, e with
  | 0, e => exact wp_dotA m c ch s hs j (e.trans (Nat.zero_add _)) Q k
  | 1, e => exact wp_dotB m c 1 0 rfl ch s hs j e Q k
  | 2, e => exact wp_dotB m c 2 1 rfl ch s hs j e Q k

end Cert.KernelIdeal.Proto

end

end
-- ==== Proof.Loop.lean ====
module

public import proofs.«01_k».proof.Proof.Compute

/-! # The loop

What holds before each of the twenty-four jobs, and that one turn carries it to the next. -/

@[expose] public section

set_option maxRecDepth 16384

noncomputable section

namespace Cert.KernelIdeal.Proto

open Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CK → ℕ)

/-! ## What the loop carries -/

/-- What the device still owes before job `j`: the second wave of sends until the fourth job is done. -/
def oJ (c : Dev nD) (j : ℕ) : CellTallies nD τ sig Unit := if j ≤ 3 then oRecv c 4 else 0

theorem above_oJ (c : Dev nD) (j : ℕ) : Above 0 (oJ c j) := by
  unfold oJ
  by_cases h : j ≤ 3
  · rw [if_pos h]; exact (above_recv c 4).mono
  · rw [if_neg h]; exact above_zero 0

/-- Owing `O`, whatever was waited for. -/
def owing (c : Dev nD) (O : CellTallies nD τ sig Unit) : sProp 𝕄 := iprop(∃ W, owes (c : Thread nD τ) O W)

/-- Three of a kind, for the first wave, -/
abbrev tri (Φ : Fin 7 → sProp 𝕄) : sProp 𝕄 := iprop(Φ 0 ∗ Φ 1 ∗ Φ 2)
/-- and four for the second. -/
abbrev qua (Φ : Fin 7 → sProp 𝕄) : sProp 𝕄 := iprop(Φ 3 ∗ Φ 4 ∗ Φ 5 ∗ Φ 6)

/-- An arrival still to be waited for. -/
def toGet (c : Dev nD) (e : Fin 7) : sProp 𝕄 := iprop(cred (tallyAt (recvCell c e) () N) ∗ atPos ER (recvCell c e) 0 ∅ 0)
/-- A send still to be made. -/
def toSend (c : Dev nD) (e : Fin 7) : sProp 𝕄 :=
  iprop(sPts m c e ∗ (∃ f, gPts (peer c e) e f) ∗ dutyTok ER (sendCell c e) 0 0 ∗ dutyTok ER (recvCell (peer c e) e) 0 0
    ∗ atPos ER (sendCell c e) 0 ∅ 0)
/-- A send under way. -/
def onWay (c : Dev nD) (e : Fin 7) : sProp 𝕄 := iprop(cred (tallyAt (sendCell c e) () N) ∗ atPos ER (sendCell c e) 0 ∅ 0)
/-- A send that has left. -/
def wasSent (c : Dev nD) (e : Fin 7) : sProp 𝕄 := iprop(semVal (sendCell c e) 0 ∗ sPts m c e)

/-- The slot job `j` is fetched to. -/
def wSlot (c : Dev nD) (j : ℕ) : sProp 𝕄 := if j < 24 then flight m c (js j) (jp j) (jc j) else idle m c (js j)
/-- The narrowed weights of job `j`. -/
def rCur (c : Dev nD) (j : ℕ) : sProp 𝕄 := if j < 24 then rHas m c (js j) (jp j) (jc j) else iprop(∃ g, rPts c (js j) g)
/-- The first wave's arrivals, taken in at job 8. -/
def gW1 (c : Dev nD) (j : ℕ) : sProp 𝕄 :=
  if j ≤ 8 then tri (F := F) (toGet c) else iprop(gatPts m c 1 ∗ tri (F := F) fun e => semVal (recvCell c e) 0)
/-- The second wave's, taken in at job 16. -/
def gW2 (c : Dev nD) (j : ℕ) : sProp 𝕄 :=
  if j ≤ 16 then qua (F := F) (toGet c) else iprop(gatPts m c 2 ∗ qua (F := F) fun e => semVal (recvCell c e) 0)
/-- The sends. -/
def sW (c : Dev nD) (j : ℕ) : sProp 𝕄 :=
  if j ≤ 3 then iprop(tri (F := F) (onWay c) ∗ qua (toSend m c)) else iprop(tri (wasSent m c) ∗ qua (F := F) (onWay c))

/-- Before job `j`. -/
def Inv (c : Dev nD) (j : ℕ) : sProp 𝕄 :=
  iprop(owing c (oJ c j) ∗ wSlot m c (j + 1) ∗ wSlot m c (j + 2) ∗ rCur m c j ∗ (∃ g, rPts c (js (j + 1)) g) ∗ oHas m c j
    ∗ gatPts m c 0 ∗ gW1 m c j ∗ gW2 m c j ∗ sW m c j)

/-! ## The arrivals together -/

omit [FloatOps F] in
theorem gBlk_set (e : Fin 7) (y : S512x4096.Idx) :
    y ∈ ((gBlk e).view.set : Finset S512x4096.Idx) ↔ 512 * (e.val + 1) ≤ (y 1).val ∧ (y 1).val < 512 * (e.val + 1) + 512 := by
  rw [show ((gBlk e).view.set : Finset S512x4096.Idx)
    = (Rect.unit (s := S512x4096) ![0, 512 * (e.val + 1)] S512x512.size (gblk_inb e)).set from View.set_slice_whole _ _,
    Rect.mem_set_unit]
  constructor
  · intro H; exact H 1
  · intro h a
    fin_cases a
    · exact ⟨Nat.zero_le _, by have := idx2_lt0 (n0 := 512) (n1 := 4096) y; exact (Nat.zero_add 512).symm ▸ this⟩
    · exact h

theorem gBlk_disjoint (e e' : Fin 7) (h : e ≠ e') :
    Disjoint ((gBlk e).view.set : Finset S512x4096.Idx) (gBlk e').view.set := by
  rw [Finset.disjoint_left]
  intro y hy hy'
  have h1 := (gBlk_set e y).mp hy
  have h2 := (gBlk_set e' y).mp hy'
  exact h (Fin.ext (by omega))

theorem K0_b0 (p : Fin 3) : K0 p = 512 * b0 p := by revert p; decide

/-- A phase's columns are its blocks. -/
theorem gat_cut (p : Fin 3) (E : Finset (Fin 7)) (h : ∀ e : Fin 7, e ∈ E ↔ b0 p ≤ e.val + 1 ∧ e.val + 1 < b0 p + nb p)
    (hp : 0 < b0 p) : (gatR p).set = E.biUnion fun e => ((gBlk e).view.set : Finset S512x4096.Idx) := by
  ext y
  have hK := K0_b0 p
  have hk := KK_nb p
  have hy := idx2_lt1 (n0 := 512) (n1 := 4096) y
  rw [mem_gatR, Finset.mem_biUnion]
  constructor
  · intro hy'
    refine ⟨⟨(y 1).val / 512 - 1, by omega⟩, (h _).mpr ?_, (gBlk_set _ y).mpr ?_⟩
    · show b0 p ≤ (y 1).val / 512 - 1 + 1 ∧ (y 1).val / 512 - 1 + 1 < b0 p + nb p
      omega
    · show 512 * ((y 1).val / 512 - 1 + 1) ≤ (y 1).val ∧ (y 1).val < 512 * ((y 1).val / 512 - 1 + 1) + 512
      omega
  · rintro ⟨e, he, hy'⟩
    have h1 := (h e).mp he
    have h2 := (gBlk_set e y).mp hy'
    omega

/-- The blocks of a phase's columns, at any contents. -/
theorem gat_split (c : Dev nD) (p : Fin 3) (E : Finset (Fin 7))
    (h : ∀ e : Fin 7, e ∈ E ↔ b0 p ≤ e.val + 1 ∧ e.val + 1 < b0 p + nb p) (hp : 0 < b0 p)
    (f : Buf (Elt F) ((c : Thread nD τ).loc cc0_scratch1)) :
    (((c : Thread nD τ).loc cc0_scratch1 ↦[(gatR p).set]{fullShare} f) : sProp 𝕄) = bigSep E fun e => gPts c e f := by
  rw [gat_cut p E h hp]
  unfold gPts
  exact pointsTo_biUnion _ _ fun e _ e' _ hne => gBlk_disjoint e e' hne

theorem gat1 (c : Dev nD) (f : Buf (Elt F) ((c : Thread nD τ).loc cc0_scratch1)) :
    (((c : Thread nD τ).loc cc0_scratch1 ↦[(gatR 1).set]{fullShare} f) : sProp 𝕄) = tri fun e => gPts c e f := by
  rw [gat_split c 1 {0, 1, 2} (by decide) (by decide), bigSep_insert (by decide), bigSep_insert (by decide), bigSep_singleton]
  rfl
theorem gat2 (c : Dev nD) (f : Buf (Elt F) ((c : Thread nD τ).loc cc0_scratch1)) :
    (((c : Thread nD τ).loc cc0_scratch1 ↦[(gatR 2).set]{fullShare} f) : sProp 𝕄) = qua fun e => gPts c e f := by
  rw [gat_split c 2 {3, 4, 5, 6} (by decide) (by decide), bigSep_insert (by decide), bigSep_insert (by decide),
    bigSep_insert (by decide), bigSep_singleton]
  rfl

/-! ## One turn -/

theorem wp_gotJ (c : Dev nD) (e : Fin 7) (Q : PUnit → sProp 𝕄) (k : KProg F) :
    iprop(records m K ∗ levAts L lv ∗ owing c 0 ∗ toGet c e)
      ⊢ iprop(((owing c 0 ∗ semVal (recvCell c e) 0 ∗ gPts c e (xgF m c)) -∗ WP c k Q) -∗ WP c (got c e k) Q) := by
  unfold owing toGet
  iintro ⟨#HR, #Hlev, ⟨%W, HO⟩, Hc, Hat⟩ Hk
  iapply (wp_got m K c e W) $$ [HO Hc Hat]
  · isplitr; · iexact HR
    isplitr; · iexact Hlev
    isplitl [HO]; · iexact HO
    isplitl [Hc]; · iexact Hc
    iexact Hat
  iintro ⟨HO, H⟩
  iapply Hk
  isplitl [HO]; · iexists _; iexact HO
  iexact H

theorem wp_sentJ (c : Dev nD) (e : Fin 7) (O : CellTallies nD τ sig Unit) (hO : Above 0 O) (Q : PUnit → sProp 𝕄) (k : KProg F) :
    iprop(records m K ∗ levAts L lv ∗ owing c O ∗ onWay c e)
      ⊢ iprop(((owing c O ∗ wasSent m c e) -∗ WP c k Q) -∗ WP c (sent c e k) Q) := by
  unfold owing onWay wasSent
  iintro ⟨#HR, #Hlev, ⟨%W, HO⟩, Hc, Hat⟩ Hk
  iapply (wp_sent m K c e O hO W) $$ [HO Hc Hat]
  · isplitr; · iexact HR
    isplitr; · iexact Hlev
    isplitl [HO]; · iexact HO
    isplitl [Hc]; · iexact Hc
    iexact Hat
  iintro ⟨HO, H⟩
  iapply Hk
  isplitl [HO]; · iexists _; iexact HO
  iexact H

theorem oRecv_succ (c : Dev nD) (n : ℕ) :
    oRecv c (n + 1) = oRecv c n + tallyAt (recvCell (peer c (ix n)) (ix n)) () N := rfl

theorem wp_sendJ (c : Dev nD) (e : Fin 7) (n : ℕ) (he : ix n = e) (Q : PUnit → sProp 𝕄) (k : KProg F) :
    iprop(records m K ∗ owing c (oRecv c (n + 1)) ∗ toSend m c e)
      ⊢ iprop(((owing c (oRecv c n) ∗ onWay c e) -∗ WP c k Q) -∗ WP c (send c e k) Q) := by
  subst he
  unfold owing toSend onWay
  rw [oRecv_succ]
  iintro ⟨#HR, ⟨%W, HO⟩, Hs, Hg, Ht1, Ht2, Hat⟩ Hk
  iapply (wp_sendP m K c (ix n) (oRecv c n) W) $$ [HO Hs Hg Ht1 Ht2]
  · isplitr; · iexact HR
    isplitl [Hs]; · iexact Hs
    isplitl [Hg]; · iexact Hg
    isplitl [HO]; · iexact HO
    isplitl [Ht1]; · iexact Ht1
    iexact Ht2
  iintro ⟨Hc, HO⟩
  iapply Hk
  isplitl [HO]; · iexists _; iexact HO
  isplitl [Hc]; · iexact Hc
  iexact Hat

/-- Taking in the rows a job needs. -/
theorem wp_preJ (c : Dev nD) (j : ℕ) (Q : PUnit → sProp 𝕄) (k : KProg F) :
    iprop(records m K ∗ levAts L lv ∗ owing c (oJ c j) ∗ gW1 m c j ∗ gW2 m c j)
      ⊢ iprop(((owing c (oJ c j) ∗ gW1 m c (j + 1) ∗ gW2 m c (j + 1)) -∗ WP c k Q) -∗ WP c (preJ c j k) Q) := by
  unfold preJ
  by_cases h8 : j = 8
  · subst h8
    rw [if_pos rfl, show oJ c 8 = 0 from rfl, show gW1 m c 8 = tri (F := F) (toGet c) from rfl,
      show gW1 m c (8 + 1) = iprop(gatPts m c 1 ∗ tri (F := F) fun e => semVal (recvCell c e) 0) from rfl,
      show gW2 m c 8 = qua (F := F) (toGet c) from rfl, show gW2 m c (8 + 1) = qua (F := F) (toGet c) from rfl]
    iintro ⟨#HR, #Hlev, HO, ⟨H0, H1, H2⟩, HW⟩ Hk
    iapply (wp_gotJ m K c 0) $$ [HO H0]
    · isplitr; · iexact HR
      isplitr; · iexact Hlev
      isplitl [HO]; · iexact HO
      iexact H0
    iintro ⟨HO, Hz0, Hg0⟩
    iapply (wp_gotJ m K c 1) $$ [HO H1]
    · isplitr; · iexact HR
      isplitr; · iexact Hlev
      isplitl [HO]; · iexact HO
      iexact H1
    iintro ⟨HO, Hz1, Hg1⟩
    iapply (wp_gotJ m K c 2) $$ [HO H2]
    · isplitr; · iexact HR
      isplitr; · iexact Hlev
      isplitl [HO]; · iexact HO
      iexact H2
    iintro ⟨HO, Hz2, Hg2⟩
    iapply Hk
    isplitl [HO]; · iexact HO
    isplitr [HW]
    · isplitl [Hg0 Hg1 Hg2]
      · unfold gatPts
        iapply (Entails.of_eq (gat1 c (xgF m c)).symm)
        isplitl [Hg0]; · iexact Hg0
        isplitl [Hg1]; · iexact Hg1
        iexact Hg2
      · isplitl [Hz0]; · iexact Hz0
        isplitl [Hz1]; · iexact Hz1
        iexact Hz2
    · iexact HW
  · rw [if_neg h8]
    by_cases h16 : j = 16
    · subst h16
      rw [if_pos rfl, show oJ c 16 = 0 from rfl, show gW2 m c 16 = qua (F := F) (toGet c) from rfl,
        show gW2 m c (16 + 1) = iprop(gatPts m c 2 ∗ qua (F := F) fun e => semVal (recvCell c e) 0) from rfl,
        show gW1 m c 16 = gW1 m c (16 + 1) from rfl]
      iintro ⟨#HR, #Hlev, HO, HW, H3, H4, H5, H6⟩ Hk
      iapply (wp_gotJ m K c 3) $$ [HO H3]
      · isplitr; · iexact HR
        isplitr; · iexact Hlev
        isplitl [HO]; · iexact HO
        iexact H3
      iintro ⟨HO, Hz3, Hg3⟩
      iapply (wp_gotJ m K c 4) $$ [HO H4]
      · isplitr; · iexact HR
        isplitr; · iexact Hlev
        isplitl [HO]; · iexact HO
        iexact H4
      iintro ⟨HO, Hz4, Hg4⟩
      iapply (wp_gotJ m K c 5) $$ [HO H5]
      · isplitr; · iexact HR
        isplitr; · iexact Hlev
        isplitl [HO]; · iexact HO
        iexact H5
      iintro ⟨HO, Hz5, Hg5⟩
      iapply (wp_gotJ m K c 6) $$ [HO H6]
      · isplitr; · iexact HR
        isplitr; · iexact Hlev
        isplitl [HO]; · iexact HO
        iexact H6
      iintro ⟨HO, Hz6, Hg6⟩
      iapply Hk
      isplitl [HO]; · iexact HO
      isplitl [HW]; · iexact HW
      isplitl [Hg3 Hg4 Hg5 Hg6]
      · unfold gatPts
        iapply (Entails.of_eq (gat2 c (xgF m c)).symm)
        isplitl [Hg3]; · iexact Hg3
        isplitl [Hg4]; · iexact Hg4
        isplitl [Hg5]; · iexact Hg5
        iexact Hg6
      · isplitl [Hz3]; · iexact Hz3
        isplitl [Hz4]; · iexact Hz4
        isplitl [Hz5]; · iexact Hz5
        iexact Hz6
    · rw [if_neg h16]
      have e1 : gW1 m c (j + 1) = gW1 (F := F) m c j := by
        unfold gW1
        by_cases h : j ≤ 8
        · rw [if_pos h, if_pos (by omega)]
        · rw [if_neg h, if_neg (by omega)]
      have e2 : gW2 m c (j + 1) = gW2 (F := F) m c j := by
        unfold gW2
        by_cases h : j ≤ 16
        · rw [if_pos h, if_pos (by omega)]
        · rw [if_neg h, if_neg (by omega)]
      rw [e1, e2]
      iintro ⟨-, -, H⟩ Hk
      iapply Hk
      iexact H

/-- A phase's rows, out of all that was gathered before job `j + 1`. -/
theorem gat_take (c : Dev nD) (j : ℕ) (hj : j < 24) :
    iprop(gatPts m c 0 ∗ gW1 m c (j + 1) ∗ gW2 m c (j + 1))
      ⊢ iprop(gatPts m c (jp j) ∗ (gatPts m c (jp j) -∗ (gatPts m c 0 ∗ gW1 m c (j + 1) ∗ gW2 m c (j + 1)))) := by
  by_cases h1 : j < 8
  · rw [show jp j = 0 from Fin.ext (by show j / 8 % 3 = 0; omega)]
    iintro ⟨H0, H⟩
    isplitl [H0]; · iexact H0
    iintro H0
    isplitl [H0]; · iexact H0
    iexact H
  · by_cases h2 : j < 16
    · rw [show jp j = 1 from Fin.ext (by show j / 8 % 3 = 1; omega)]
      unfold gW1
      rw [if_neg (by omega)]
      iintro ⟨H0, ⟨H1, Hz⟩, H2⟩
      isplitl [H1]; · iexact H1
      iintro H1
      isplitl [H0]; · iexact H0
      isplitr [H2]
      · isplitl [H1]; · iexact H1
        iexact Hz
      · iexact H2
    · rw [show jp j = 2 from Fin.ext (by show j / 8 % 3 = 2; omega)]
      unfold gW2
      rw [if_neg (by omega)]
      iintro ⟨H0, H1, ⟨H2, Hz⟩⟩
      isplitl [H2]; · iexact H2
      iintro H2
      isplitl [H0]; · iexact H0
      isplitl [H1]; · iexact H1
      isplitl [H2]; · iexact H2
      iexact Hz

/-- The second wave of sends. -/
theorem wp_postJ (c : Dev nD) (j : ℕ) (Q : PUnit → sProp 𝕄) (k : KProg F) :
    iprop(records m K ∗ levAts L lv ∗ owing c (oJ c j) ∗ sW m c j)
      ⊢ iprop(((owing c (oJ c (j + 1)) ∗ sW m c (j + 1)) -∗ WP c k Q) -∗ WP c (postJ c j k) Q) := by
  unfold postJ
  by_cases h3 : j = 3
  · subst h3
    rw [if_pos rfl, show oJ c 3 = oRecv c 4 from rfl, show oJ c (3 + 1) = oRecv c 0 from rfl,
      show sW m c 3 = iprop(tri (F := F) (onWay c) ∗ qua (toSend m c)) from rfl,
      show sW m c (3 + 1) = iprop(tri (wasSent m c) ∗ qua (F := F) (onWay c)) from rfl]
    have hO : Above 0 (oRecv c 4) := (above_recv c 4).mono
    iintro ⟨#HR, #Hlev, HO, ⟨H0, H1, H2⟩, H3, H4, H5, H6⟩ Hk
    iapply (wp_sentJ m K c 0 _ hO) $$ [HO H0]
    · isplitr; · iexact HR
      isplitr; · iexact Hlev
      isplitl [HO]; · iexact HO
      iexact H0
    iintro ⟨HO, H0⟩
    iapply (wp_sentJ m K c 1 _ hO) $$ [HO H1]
    · isplitr; · iexact HR
      isplitr; · iexact Hlev
      isplitl [HO]; · iexact HO
      iexact H1
    iintro ⟨HO, H1⟩
    iapply (wp_sentJ m K c 2 _ hO) $$ [HO H2]
    · isplitr; · iexact HR
      isplitr; · iexact Hlev
      isplitl [HO]; · iexact HO
      iexact H2
    iintro ⟨HO, H2⟩
    iapply (wp_sendJ m K c 3 3 rfl) $$ [HO H3]
    · isplitr; · iexact HR
      isplitl [HO]; · iexact HO
      iexact H3
    iintro ⟨HO, H3⟩
    iapply (wp_sendJ m K c 4 2 rfl) $$ [HO H4]
    · isplitr; · iexact HR
      isplitl [HO]; · iexact HO
      iexact H4
    iintro ⟨HO, H4⟩
    iapply (wp_sendJ m K c 5 1 rfl) $$ [HO H5]
    · isplitr; · iexact HR
      isplitl [HO]; · iexact HO
      iexact H5
    iintro ⟨HO, H5⟩
    iapply (wp_sendJ m K c 6 0 rfl) $$ [HO H6]
    · isplitr; · iexact HR
      isplitl [HO]; · iexact HO
      iexact H6
    iintro ⟨HO, H6⟩
    iapply Hk
    isplitl [HO]; · iexact HO
    isplitl [H0 H1 H2]
    · isplitl [H0]; · iexact H0
      isplitl [H1]; · iexact H1
      iexact H2
    · isplitl [H3]; · iexact H3
      isplitl [H4]; · iexact H4
      isplitl [H5]; · iexact H5
      iexact H6
  · rw [if_neg h3]
    have e1 : oJ c (j + 1) = oJ c j := by
      unfold oJ
      by_cases h : j ≤ 3
      · rw [if_pos h, if_pos (by omega)]
      · rw [if_neg h, if_neg (by omega)]
    have e2 : sW m c (j + 1) = sW (F := F) m c j := by
      unfold sW
      by_cases h : j ≤ 3
      · rw [if_pos h, if_pos (by omega)]
      · rw [if_neg h, if_neg (by omega)]
    rw [e1, e2]
    iintro ⟨-, -, H⟩ Hk
    iapply Hk
    iexact H

/-- The next job's narrowing. -/
theorem wp_nextConv (c : Dev nD) (j : ℕ) (O : CellTallies nD τ sig Unit) (hO : Above 0 O) (Q : PUnit → sProp 𝕄) (k : KProg F) :
    iprop(levAts L lv ∗ owing c O ∗ wSlot m c (j + 1) ∗ ∃ g, rPts c (js (j + 1)) g)
      ⊢ iprop(((owing c O ∗ idle m c (js (j + 1)) ∗ rCur m c (j + 1)) -∗ WP c k Q)
        -∗ WP c ((if j < 23 then convJ c (j + 1) else id) k) Q) := by
  unfold wSlot rCur
  by_cases h : j < 23
  · rw [if_pos h, if_pos (show j + 1 < 24 by omega), if_pos (show j + 1 < 24 by omega)]
    unfold convJ owing
    iintro ⟨#Hlev, ⟨%W, HO⟩, HF, Hr⟩ Hk
    iapply (wp_convSlot m c (js (j + 1)) (jp (j + 1)) (jc (j + 1)) O hO W) $$ [HO HF Hr]
    · isplitl [HF]; · iexact HF
      isplitl [HO]; · iexact HO
      isplitr; · iexact Hlev
      iexact Hr
    iintro ⟨Hi, Hr, HO⟩
    iapply Hk
    isplitl [HO]; · iexact HO
    isplitl [Hi]; · iexact Hi
    iexact Hr
  · rw [if_neg h, if_neg (show ¬ j + 1 < 24 by omega), if_neg (show ¬ j + 1 < 24 by omega)]
    iintro ⟨-, HO, Hi, Hr⟩ Hk
    unfold id
    iapply Hk
    isplitl [HO]; · iexact HO
    isplitl [Hi]; · iexact Hi
    iexact Hr

theorem js_two (j : ℕ) : js (j + 2) = js j := Fin.ext (Nat.add_mod_right j 2)

/-- The fetch after next. -/
theorem wp_nextFetch (c : Dev nD) (j : ℕ) (Q : PUnit → sProp 𝕄) (k : KProg F) :
    (idle m c (js (j + 1)) : sProp 𝕄)
      ⊢ iprop((wSlot m c (j + 3) -∗ WP c k Q) -∗ WP c ((if j < 21 then fetchJ c (j + 3) else id) k) Q) := by
  unfold wSlot
  rw [← js_two (j + 1)]
  by_cases h : j < 21
  · rw [if_pos h, if_pos (show j + 3 < 24 by omega)]
    exact wp_fetchJ m c (j + 3) k Q
  · rw [if_neg h, if_neg (show ¬ j + 3 < 24 by omega)]
    iintro Hi Hk
    unfold id
    iapply Hk
    iexact Hi

theorem wp_turn (c : Dev nD) (j : ℕ) (hj : j < 24) (Q : PUnit → sProp 𝕄) (k : KProg F) :
    iprop(records m K ∗ levAts L lv ∗ Inv m c j)
      ⊢ iprop((Inv m c (j + 1) -∗ WP c k Q) -∗ WP c (turn c j k) Q) := by
  unfold turn Inv
  iintro ⟨#HR, #Hlev, HO, HF1, HF2, Hr, Hr', Ho, Hg0, Hg1, Hg2, Hs⟩ Hk
  iapply (wp_preJ m K c j) $$ [HO Hg1 Hg2]
  · isplitr; · iexact HR
    isplitr; · iexact Hlev
    isplitl [HO]; · iexact HO
    isplitl [Hg1]; · iexact Hg1
    iexact Hg2
  iintro ⟨HO, Hg1, Hg2⟩
  iapply (wp_nextConv m c j _ (above_oJ c j)) $$ [HO HF1 Hr']
  · isplitr; · iexact Hlev
    isplitl [HO]; · iexact HO
    isplitl [HF1]; · iexact HF1
    iexact Hr'
  iintro ⟨HO, Hi, Hr'⟩
  iapply (wp_nextFetch m c j) $$ Hi
  iintro HF3
  ihave Hg := (gat_take m c j hj) $$ [Hg0 Hg1 Hg2]
  · isplitl [Hg0]; · iexact Hg0
    isplitl [Hg1]; · iexact Hg1
    iexact Hg2
  icases Hg with ⟨Hx, Hg⟩
  ihave Hr := (Entails.of_eq (show rCur m c j = rHas m c (js j) (jp j) (jc j) from if_pos hj)) $$ Hr
  iapply (wp_dotJ m c j hj) $$ [Hx Hr Ho]
  · isplitl [Hx]; · iexact Hx
    isplitl [Hr]; · iexact Hr
    iexact Ho
  iintro ⟨Hx, Hr, Ho⟩
  ispecialize Hg $$ Hx
  icases Hg with ⟨Hg0, Hg1, Hg2⟩
  iapply (wp_postJ m K c j) $$ [HO Hs]
  · isplitr; · iexact HR
    isplitr; · iexact Hlev
    isplitl [HO]; · iexact HO
    iexact Hs
  iintro ⟨HO, Hs⟩
  iapply Hk
  isplitl [HO]; · iexact HO
  isplitl [HF2]; · iexact HF2
  isplitl [HF3]; · iexact HF3
  isplitl [Hr']; · iexact Hr'
  isplitl [Hr]; · rw [show js (j + 1 + 1) = js j from js_two j]; iexact Hr
  isplitl [Ho]; · iexact Ho
  isplitl [Hg0]; · iexact Hg0
  isplitl [Hg1]; · iexact Hg1
  isplitl [Hg2]; · iexact Hg2
  iexact Hs

/-- The whole loop. -/
theorem wp_turns (c : Dev nD) (Q : PUnit → sProp 𝕄) (k : KProg F) : ∀ (n j : ℕ), j + n = 24 →
    iprop(records m K ∗ levAts L lv ∗ Inv m c j)
      ⊢ iprop((Inv m c 24 -∗ WP c k Q) -∗ WP c (turns c n j k) Q)
  | 0, j, h => by
    obtain rfl : j = 24 := h
    unfold turns
    iintro ⟨-, -, H⟩ Hk
    iapply Hk
    iexact H
  | n + 1, j, h => by
    unfold turns
    iintro ⟨#HR, #Hlev, HI⟩ Hk
    iapply (wp_turn m K c j (by omega)) $$ [HI]
    · isplitr; · iexact HR
      isplitr; · iexact Hlev
      iexact HI
    iintro HI
    iapply (wp_turns c Q k n (j + 1) (by omega)) $$ [HI]
    · isplitr; · iexact HR
      isplitr; · iexact Hlev
      iexact HI
    iexact Hk

end Cert.KernelIdeal.Proto

end

end
-- ==== Proof.Buffers.lean ====
module

public import proofs.«01_k».proof.Proof.Loop

/-! # Buffers taken apart and put together

The scratch buffers and the weights are whole at launch and whole again at the end; in between they
are held in pieces. -/

@[expose] public section

set_option maxRecDepth 16384

noncomputable section

namespace Cert.KernelIdeal.Proto

open Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The same elements, named differently. -/
theorem pts_set {ℓ : Loc nD τ sig} {S S' : Finset (Idx ℓ)} (q : PosShare TreeShare) (f : Buf (Elt F) ℓ) (h : S = S') :
    (ℓ ↦[S]{q} f : sProp 𝕄) = ℓ ↦[S']{q} f := by rw [h]

/-- All seven, as the two waves. -/
theorem bigSep_seven (Φ : Fin 7 → sProp 𝕄) : bigSep Finset.univ Φ = iprop(tri Φ ∗ qua Φ) := by
  have hd : Disjoint ({0, 1, 2} : Finset (Fin 7)) {3, 4, 5, 6} := by decide
  have h3 : bigSep ({0, 1, 2} : Finset (Fin 7)) Φ = tri Φ := by
    rw [bigSep_insert (by decide), bigSep_insert (by decide), bigSep_singleton]; rfl
  have h4 : bigSep ({3, 4, 5, 6} : Finset (Fin 7)) Φ = qua Φ := by
    rw [bigSep_insert (by decide), bigSep_insert (by decide), bigSep_insert (by decide), bigSep_singleton]; rfl
  rw [show (Finset.univ : Finset (Fin 7)) = {0, 1, 2} ∪ {3, 4, 5, 6} by decide, bigSep_union hd, h3, h4]
  rfl

/-! ## The gathering buffer -/

def gAll (c : Dev nD) (f : Buf (Elt F) ((c : Thread nD τ).loc cc0_scratch1)) : sProp 𝕄 :=
  (c : Thread nD τ).loc cc0_scratch1 ↦{fullShare} f

theorem gatR_cover : (Finset.univ : Finset (Fin 3)).biUnion (fun p => ((gatR p).set : Finset S512x4096.Idx)) = Finset.univ := by
  ext y
  have hy := idx2_lt1 (n0 := 512) (n1 := 4096) y
  simp only [Finset.mem_biUnion, Finset.mem_univ, true_and, iff_true]
  by_cases h0 : (y 1).val < 512
  · exact ⟨0, (mem_gatR 0 y).mpr ⟨Nat.zero_le _, by show _ < 0 + 512; omega⟩⟩
  · by_cases h1 : (y 1).val < 2048
    · exact ⟨1, (mem_gatR 1 y).mpr ⟨by show 512 ≤ _; omega, by show _ < 512 + 1536; omega⟩⟩
    · exact ⟨2, (mem_gatR 2 y).mpr ⟨by show 2048 ≤ _; omega, by show _ < 2048 + 2048; omega⟩⟩

theorem gatR_disjoint (p p' : Fin 3) (h : p ≠ p') : Disjoint ((gatR p).set : Finset S512x4096.Idx) (gatR p').set := by
  have hk : ∀ p p' : Fin 3, p ≠ p' → K0 p + KK p ≤ K0 p' ∨ K0 p' + KK p' ≤ K0 p := by decide
  rw [Finset.disjoint_left]
  intro y hy hy'
  have h1 := (mem_gatR p y).mp hy
  have h2 := (mem_gatR p' y).mp hy'
  have h3 := hk p p' h
  omega

theorem gAll_eq (c : Dev nD) (f : Buf (Elt F) ((c : Thread nD τ).loc cc0_scratch1)) :
    (gAll c f : sProp 𝕄) = iprop(((c : Thread nD τ).loc cc0_scratch1 ↦[(gatR 0).set]{fullShare} f)
      ∗ (tri fun e => gPts c e f) ∗ qua fun e => gPts c e f) := by
  rw [← gat1, ← gat2]
  have h : (gAll c f : sProp 𝕄) = bigSep Finset.univ fun p : Fin 3 => (c : Thread nD τ).loc cc0_scratch1 ↦[(gatR p).set]{fullShare} f := by
    refine Eq.trans ?_ (pointsTo_biUnion (ℓ := (c : Thread nD τ).loc cc0_scratch1) Finset.univ
      (fun p : Fin 3 => ((gatR p).set : Finset S512x4096.Idx)) (fun p _ p' _ hne => gatR_disjoint p p' hne))
    exact pts_set (ℓ := (c : Thread nD τ).loc cc0_scratch1) fullShare f gatR_cover.symm
  rw [h, show (Finset.univ : Finset (Fin 3)) = {0, 1, 2} by decide, bigSep_insert (by decide), bigSep_insert (by decide),
    bigSep_singleton]
  rfl

/-! ## The narrowed shard -/

/-- The rows that are sent. -/
abbrev sSets (c : Dev nD) : Finset S4096x512.Idx :=
  (Finset.univ : Finset (Fin 7)).biUnion fun e => ((sBlk c e).view.set : Finset S4096x512.Idx)

theorem mem_sBlk (c : Dev nD) (e : Fin 7) (y : S4096x512.Idx) :
    y ∈ ((sBlk c e).view.set : Finset S4096x512.Idx)
      → 512 * (peer c e).val ≤ (y 0).val ∧ (y 0).val < 512 * (peer c e).val + 512 := by
  rw [show ((sBlk c e).view.set : Finset S4096x512.Idx)
    = (Rect.unit (s := S4096x512) (k0_off2 c (BitVec.ofNat 32 (1 + e.val))) S512x512.size (k0_off2_inb c e)).set
      from View.set_slice_whole _ _, Rect.mem_set_unit, soff_eq]
  intro H; exact H 0

theorem peer_ne (c : Dev nD) (e e' : Fin 7) (h : e ≠ e') : (peer c e).val ≠ (peer c e').val := by
  revert c e e'; decide

theorem sBlk_disjoint (c : Dev nD) (e e' : Fin 7) (h : e ≠ e') :
    Disjoint ((sBlk c e).view.set : Finset S4096x512.Idx) (sBlk c e').view.set := by
  rw [Finset.disjoint_left]
  intro y hy hy'
  have h1 := mem_sBlk c e y hy
  have h2 := mem_sBlk c e' y hy'
  have h3 := peer_ne c e e' h
  omega

/-- The rows that stay. -/
def sOwn (c : Dev nD) : sProp 𝕄 :=
  (c : Thread nD τ).loc cc0_scratch0 ↦[Finset.univ \ sSets c]{fullShare} xsF m c

theorem sAll_cut (c : Dev nD) : (sAll c (xsF m c) : sProp 𝕄) ⊣⊢ iprop((bigSep Finset.univ fun e : Fin 7 => sPts m c e) ∗ sOwn m c) := by
  unfold sAll sOwn sPts
  rw [← show (((c : Thread nD τ).loc cc0_scratch0 ↦[sSets c]{fullShare} xsF m c) : sProp 𝕄)
    = bigSep Finset.univ fun e : Fin 7 => ((sBlk c e).view.loc (c : Thread nD τ) ↦[(sBlk c e).view.set]{fullShare} xsF m c)
    from pointsTo_biUnion _ _ fun e _ e' _ hne => sBlk_disjoint c e e' hne]
  exact pointsTo_split_subset (Finset.subset_univ _)

/-! ## The slots of narrowed weights -/

def rAll (c : Dev nD) (f : Buf (Elt F) ((c : Thread nD τ).loc cc0_scratch3)) : sProp 𝕄 :=
  (c : Thread nD τ).loc cc0_scratch3 ↦{fullShare} f

abbrev rSet (s : Fin 2) : Finset S2x2048x1024.Idx := (slotR s 2).set

theorem slots_cover : rSet 0 ∪ rSet 1 = Finset.univ := by
  ext y
  have h0 : (y 0).val < 2 := (y 0).isLt
  have h1 : (y 1).val < 2048 := (y 1).isLt
  simp only [Finset.mem_union, Finset.mem_univ, iff_true]
  by_cases h : (y 0).val = 0
  · exact .inl ((mem_slotR 0 2 y).mpr ⟨h, h1⟩)
  · exact .inr ((mem_slotR 1 2 y).mpr ⟨by show (y 0).val = 1; omega, h1⟩)

theorem slots_disjoint : Disjoint (rSet 0) (rSet 1) := by
  rw [Finset.disjoint_left]
  intro y hy hy'
  have h1 : (y 0).val = 0 := ((mem_slotR 0 2 y).mp hy).1
  have h2 : (y 0).val = 1 := ((mem_slotR 1 2 y).mp hy').1
  omega

theorem rAll_split (c : Dev nD) (f : Buf (Elt F) ((c : Thread nD τ).loc cc0_scratch3)) :
    (rAll c f : sProp 𝕄) ⊢ iprop(rPts c 0 f ∗ rPts c 1 f) := by
  unfold rPts
  refine (Entails.of_eq ?_).trans (pointsTo_union (ℓ := (c : Thread nD τ).loc cc0_scratch3)
    (I := rSet 0) (J := rSet 1) slots_disjoint).1
  exact pts_set (ℓ := (c : Thread nD τ).loc cc0_scratch3) fullShare f slots_cover.symm

theorem rAll_join (c : Dev nD) :
    iprop((∃ f, rPts c 0 f) ∗ ∃ g, rPts c 1 g) ⊢ (iprop(∃ f, rAll c f) : sProp 𝕄) := by
  unfold rPts
  iintro ⟨⟨%f, H0⟩, ⟨%g, H1⟩⟩
  iexists ((rSet 1).piecewise g f : Buf (Elt F) ((c : Thread nD τ).loc cc0_scratch3))
  unfold rAll
  iapply (Entails.of_eq (pts_set (ℓ := (c : Thread nD τ).loc cc0_scratch3) fullShare
    ((rSet 1).piecewise g f : Buf (Elt F) ((c : Thread nD τ).loc cc0_scratch3)) slots_cover))
  iapply (pointsTo_join (ℓ := (c : Thread nD τ).loc cc0_scratch3) (q := fullShare) (f := f) (g := g)
    (I := rSet 0) (J := rSet 1) slots_disjoint)
  isplitl [H0]; · iexact H0
  iexact H1

/-! ## The slots of fetched weights, and the weights -/

def bAll (c : Dev nD) (f : Buf (Elt F) ((c : Thread nD τ).loc cc0_scratch2)) : sProp 𝕄 :=
  (c : Thread nD τ).loc cc0_scratch2 ↦{fullShare} f
def wAll (c : Dev nD) : sProp 𝕄 := (c : Thread nD τ).loc main_arg1 ↦{fullShare} wF m c
/-- What is left of the weights once every piece has its share. -/
def wLeft (c : Dev nD) : sProp 𝕄 := (c : Thread nD τ).loc main_arg1 ↦{Transfers.shareDrop fullShare 8} wF m c

abbrev bSet (si : Fin 2 × Fin 4) : Finset S2x2048x1024.Idx := ((bBlk si.1 si.2).view.set : Finset S2x2048x1024.Idx)

theorem pieces_cover : (Finset.univ : Finset (Fin 2 × Fin 4)).biUnion bSet = Finset.univ := by
  ext y
  have h0 : (y 0).val < 2 := (y 0).isLt
  have h1 : (y 1).val < 2048 := (y 1).isLt
  simp only [Finset.mem_biUnion, Finset.mem_univ, true_and, iff_true]
  refine ⟨(⟨(y 0).val, h0⟩, ⟨(y 1).val / 512, by omega⟩), (mem_bBlk _ _ y).mpr ⟨rfl, ?_⟩⟩
  show 512 * ((y 1).val / 512) ≤ _ ∧ _ < 512 * ((y 1).val / 512) + 512
  omega

theorem bAll_eq (c : Dev nD) (f : Buf (Elt F) ((c : Thread nD τ).loc cc0_scratch2)) :
    (bAll c f : sProp 𝕄) = bigSep Finset.univ fun si : Fin 2 × Fin 4 => bPts c si.1 si.2 f := by
  unfold bPts
  refine Eq.trans ?_ (pointsTo_biUnion (ℓ := (c : Thread nD τ).loc cc0_scratch2) Finset.univ
    bSet (fun a _ b _ hne => bBlk_disjoint a.1 b.1 a.2 b.2 hne))
  exact pts_set (ℓ := (c : Thread nD τ).loc cc0_scratch2) fullShare f pieces_cover.symm

theorem wAll_eq (c : Dev nD) :
    (wAll m c : sProp 𝕄) ⊣⊢ iprop(wLeft m c ∗ bigSep Finset.univ fun si : Fin 2 × Fin 4 => wTok m c si.1 si.2) := by
  have h : (bigSep Finset.univ fun i : Fin 8 => ((c : Thread nD τ).loc main_arg1 ↦{Transfers.shareTok fullShare 8 i} wF m c : sProp 𝕄))
      = bigSep Finset.univ fun si : Fin 2 × Fin 4 => wTok m c si.1 si.2 := by
    rw [bigSep_univ_equiv (finProdFinEquiv : Fin 2 × Fin 4 ≃ Fin 8)]
    refine bigSep_congr fun si _ => ?_
    unfold wTok tk Transfers.shareTok
    rw [show 4 * si.1.val + si.2.val = (finProdFinEquiv si : Fin 8).val from Nat.add_comm _ _]
  rw [← h]
  exact ⟨Transfers.pointsTo_toks_split fullShare 8, Transfers.pointsTo_toks_join fullShare 8⟩

theorem two_slots (Φ : Fin 2 × Fin 4 → sProp 𝕄) : bigSep Finset.univ Φ
    = iprop((bigSep Finset.univ fun i : Fin 4 => Φ (0, i)) ∗ bigSep Finset.univ fun i : Fin 4 => Φ (1, i)) := by
  rw [bigSep_univ_prod, bigSep_fin_two]
  rfl

/-- Both slots at rest. -/
theorem idle_intro (c : Dev nD) (f : Buf (Elt F) ((c : Thread nD τ).loc cc0_scratch2)) :
    iprop(bAll c f ∗ wAll m c ∗ semVal (wCell c 0) 0 ∗ semVal (wCell c 1) 0) ⊢ iprop(idle m c 0 ∗ idle m c 1 ∗ wLeft m c) := by
  have hp : ∀ si : Fin 2 × Fin 4, iprop(bPts c si.1 si.2 f ∗ wTok m c si.1 si.2) ⊢ restPc m c si.1 si.2 := fun si => by
    unfold restPc
    iintro ⟨Hb, Hw⟩
    isplitl [Hb]; · iexists _; iexact Hb
    iexact Hw
  have h : iprop((bigSep Finset.univ fun si : Fin 2 × Fin 4 => bPts c si.1 si.2 f)
      ∗ bigSep Finset.univ fun si : Fin 2 × Fin 4 => wTok m c si.1 si.2)
      ⊢ iprop((bigSep Finset.univ fun i : Fin 4 => restPc m c 0 i) ∗ bigSep Finset.univ fun i : Fin 4 => restPc m c 1 i) := by
    rw [← bigSep_sep']
    rw [← two_slots (fun si => restPc m c si.1 si.2)]
    exact bigSep_mono fun si _ => hp si
  rw [bAll_eq]
  unfold idle
  iintro ⟨Hb, Hw, Hv0, Hv1⟩
  ihave Hw := (wAll_eq m c).1 $$ Hw
  icases Hw with ⟨Hl, Hw⟩
  ihave H := h $$ [Hb Hw]
  · isplitl [Hb]; · iexact Hb
    iexact Hw
  icases H with ⟨H0, H1⟩
  isplitl [H0 Hv0]
  · isplitl [Hv0]; · iexact Hv0
    iexact H0
  isplitl [H1 Hv1]
  · isplitl [Hv1]; · iexact Hv1
    iexact H1
  iexact Hl

/-- And back. -/
theorem idle_exit (c : Dev nD) (f₀ : Buf (Elt F) ((c : Thread nD τ).loc cc0_scratch2)) :
    iprop(idle m c 0 ∗ idle m c 1 ∗ wLeft m c)
      ⊢ iprop((∃ f, bAll c f) ∗ wAll m c ∗ semVal (wCell c 0) 0 ∗ semVal (wCell c 1) 0) := by
  have hj : (bigSep Finset.univ fun si : Fin 2 × Fin 4 => iprop(∃ f, bPts (F := F) c si.1 si.2 f)) ⊢ iprop(∃ f, bAll c f) := by
    refine (bigSep_exists_pi Finset.univ fun (si : Fin 2 × Fin 4) f => bPts (F := F) c si.1 si.2 f).trans ?_
    iintro ⟨%fs, H⟩
    unfold bPts
    ihave H := (pointsTo_biUnion_join (ℓ := (c : Thread nD τ).loc cc0_scratch2) Finset.univ
      bSet fs f₀
      (fun a _ b _ hne => bBlk_disjoint a.1 b.1 a.2 b.2 hne)) $$ H
    icases H with ⟨%g, -, H⟩
    iexists g
    unfold bAll
    iapply (Entails.of_eq (pts_set (ℓ := (c : Thread nD τ).loc cc0_scratch2) fullShare g pieces_cover))
    iexact H
  have h : iprop((bigSep Finset.univ fun i : Fin 4 => restPc m c 0 i) ∗ bigSep Finset.univ fun i : Fin 4 => restPc m c 1 i)
      ⊢ iprop((bigSep Finset.univ fun si : Fin 2 × Fin 4 => iprop(∃ f, bPts (F := F) c si.1 si.2 f))
      ∗ bigSep Finset.univ fun si : Fin 2 × Fin 4 => wTok m c si.1 si.2) := by
    rw [← two_slots (fun si => restPc m c si.1 si.2), ← bigSep_sep']
    exact bigSep_mono fun si _ => (BI.Entails.refl _ : restPc m c si.1 si.2 ⊢ restPc m c si.1 si.2)
  unfold idle
  iintro ⟨⟨Hv0, H0⟩, ⟨Hv1, H1⟩, Hl⟩
  ihave H := h $$ [H0 H1]
  · isplitl [H0]; · iexact H0
    iexact H1
  icases H with ⟨Hb, Hw⟩
  isplitl [Hb]; · iapply hj; iexact Hb
  isplitl [Hl Hw]
  · iapply (wAll_eq m c).2
    isplitl [Hl]; · iexact Hl
    iexact Hw
  isplitl [Hv0]; · iexact Hv0
  iexact Hv1

end Cert.KernelIdeal.Proto

end

end
-- ==== Proof.ProgramEq.lean ====
module

public import proofs.«01_k».proof.Proof.Program

/-! # The printed body is the loop -/

@[expose] public section

set_option maxRecDepth 65536

noncomputable section

namespace Cert.KernelIdeal.Proto

open Idealize.ShloMosaic Idealize.ShloMosaic.TcCoe
open Idealize.SL Idealize.SL.Sem
open Cert.KernelIdeal.Gen

variable {F : FTy → Type} [FloatOps F]

set_option maxHeartbeats 4000000 in
theorem body_eq (t : Fin cfg0.N) : bodyAt0 (F := F) t = body := by
  have ht : t = t0_0 := fin_N0 t
  subst ht
  rfl

end Cert.KernelIdeal.Proto

end

end
-- ==== Proof.Body.lean ====
module

public import proofs.«01_k».proof.Proof.Buffers
public import proofs.«01_k».proof.Proof.ProgramEq

/-! # One device's run, from its launch state to its end -/

@[expose] public section

set_option maxRecDepth 16384

noncomputable section

namespace Cert.KernelIdeal.Proto

open Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CK → ℕ)

/-! ## The result -/

/-- The result's buffer at the end: in every chunk what the last phase left. -/
def outF (c : Dev nD) : Buf (Elt F) ((c : Thread nD τ).loc cc0_stg1_0) := fun (y : S512x8192.Idx) =>
  accP m c ⟨(y 1).val / 1024, by have := idx2_lt1 (n0 := 512) (n1 := 8192) y; omega⟩ 2
    (ix2 ⟨(y 0).val, idx2_lt0 (n0 := 512) (n1 := 8192) y⟩ ⟨(y 1).val % 1024, Nat.mod_lt _ (by decide)⟩)

theorem outF_eq (c : Dev nD) (f : Buf (Elt F) ((c : Thread nD τ).loc cc0_stg1_0)) (h : OutOk m c 24 f) : f = outF m c := by
  funext y
  have h1 := idx2_lt1 (n0 := 512) (n1 := 8192) y
  have hc := h 2 ⟨(y 1).val / 1024, by omega⟩ (by show 8 * 2 + (y 1).val / 1024 < 24; omega) (by show 24 ≤ 8 * 2 + 8 + (y 1).val / 1024; omega)
  refine Eq.trans ?_ (congrFun hc (ix2 ⟨(y 0).val, idx2_lt0 (n0 := 512) (n1 := 8192) y⟩ ⟨(y 1).val % 1024, Nat.mod_lt _ (by decide)⟩))
  show f y = f ((outR _).emb _)
  refine congrArg f (funext fun a => Fin.ext ?_)
  rw [Rect.emb_apply]
  fin_cases a
  · show (y 0).val = 0 + 1 * (y 0).val
    omega
  · show (y 1).val = 1024 * ((y 1).val / 1024) + 1 * ((y 1).val % 1024)
    omega

/-! ## What a device starts with and ends with -/

/-- Over the seven distances. -/
abbrev all7 (Φ : Fin 7 → sProp 𝕄) : sProp 𝕄 := bigSep Finset.univ Φ

/-- A device's positions at its cells and its tokens. -/
def lin (c : Dev nD) : sProp 𝕄 :=
  iprop(atPos ER (barCell c) 0 ∅ 0 ∗ (all7 (F := F) fun e => atPos ER (sendCell c e) 0 ∅ 0)
    ∗ (all7 (F := F) fun e => atPos ER (recvCell c e) 0 ∅ 0)
    ∗ (all7 (F := F) fun e => dutyTok ER (barCell (peer c e)) 0 e)
    ∗ (all7 (F := F) fun e => dutyTok ER (sendCell c e) 0 0)
    ∗ all7 (F := F) fun e => dutyTok ER (recvCell (peer c e) e) 0 0)
/-- Its credit. -/
def creds (c : Dev nD) : sProp 𝕄 :=
  iprop(cred (tallyAt (barCell c) () 7) ∗ all7 (F := F) fun e => cred (tallyAt (recvCell c e) () N))
/-- Its scratch buffers, at any contents. -/
def scr (c : Dev nD) : sProp 𝕄 :=
  iprop((∃ f, sAll (F := F) c f) ∗ (∃ f, gAll (F := F) c f) ∗ (∃ f, bAll (F := F) c f) ∗ ∃ f, rAll (F := F) c f)
/-- Its two weight semaphores at zero. -/
def wSems (c : Dev nD) : sProp 𝕄 := iprop(semVal (wCell c 0) 0 ∗ semVal (wCell c 1) 0)
/-- Its other semaphores at zero. -/
def endSems (c : Dev nD) : sProp 𝕄 :=
  iprop((all7 (F := F) fun e => semVal (sendCell c e) 0) ∗ (all7 (F := F) fun e => semVal (recvCell c e) 0) ∗ semVal (barCell c) 0)

theorem wp_signalN (c : Dev nD) (e : Fin 7) (n : ℕ) (he : ix n = e) (Q : PUnit → sProp 𝕄) (k : KProg F) :
    iprop(records m K ∗ owing c (oRecv c 7 + oBar c (n + 1)) ∗ dutyTok ER (barCell (peer c e)) 0 e ∗ ∃ f, gPts (F := F) c e.rev f)
      ⊢ iprop((owing c (oRecv c 7 + oBar c n) -∗ WP c k Q) -∗ WP c (signal c e k) Q) := by
  subst he
  unfold owing
  rw [show oRecv c 7 + oBar c (n + 1) = (oRecv c 7 + oBar c n) + tallyAt (barCell (peer c (ix n))) () 1 from (add_assoc _ _ _).symm]
  iintro ⟨#HR, ⟨%W, HO⟩, Ht, Hg⟩ Hk
  iapply (wp_signal m K c (ix n) (oRecv c 7 + oBar c n) W) $$ [HO Ht Hg]
  · isplitr; · iexact HR
    isplitl [HO]; · iexact HO
    isplitl [Ht]; · iexact Ht
    iexact Hg
  iintro HO
  iapply Hk
  iexists _; iexact HO

/-- The sends, once every partner has handed over its block. -/
theorem toSend_intro (c : Dev nD) :
    iprop((all7 fun e => sPts m c e) ∗ (all7 fun e => iprop(∃ f, gPts (F := F) (peer c e) e f))
      ∗ (all7 (F := F) fun e => dutyTok ER (sendCell c e) 0 0) ∗ (all7 (F := F) fun e => dutyTok ER (recvCell (peer c e) e) 0 0)
      ∗ all7 (F := F) fun e => atPos ER (sendCell c e) 0 ∅ 0)
      ⊢ iprop(tri (toSend m c) ∗ qua (toSend m c)) := by
  unfold all7
  rw [← bigSep_sep', ← bigSep_sep', ← bigSep_sep', ← bigSep_sep', ← bigSep_seven (toSend m c)]
  exact bigSep_mono fun e _ => (BI.Entails.refl _ : toSend m c e ⊢ toSend m c e)
theorem toGet_intro (c : Dev nD) :
    iprop((all7 (F := F) fun e => cred (tallyAt (recvCell c e) () N)) ∗ all7 (F := F) fun e => atPos ER (recvCell c e) 0 ∅ 0)
      ⊢ iprop(tri (F := F) (toGet c) ∗ qua (F := F) (toGet c)) := by
  unfold all7
  rw [← bigSep_sep', ← bigSep_seven (toGet c)]
  exact bigSep_mono fun e _ => (BI.Entails.refl _ : toGet (F := F) c e ⊢ toGet c e)
theorem wasSent_exit (c : Dev nD) :
    iprop(tri (wasSent m c) ∗ qua (wasSent m c))
      ⊢ iprop((all7 (F := F) fun e => semVal (sendCell c e) 0) ∗ all7 fun e => sPts m c e) := by
  unfold all7
  rw [← bigSep_sep', ← bigSep_seven (wasSent m c)]
  exact bigSep_mono fun e _ => (BI.Entails.refl _ : wasSent m c e ⊢ wasSent m c e)

/-- The loop's state before the first job. -/
theorem inv_start (c : Dev nD) :
    iprop(owing (F := F) c (oRecv c 4) ∗ flight m c (js 1) (jp 1) (jc 1) ∗ flight m c (js 2) (jp 2) (jc 2)
        ∗ rHas m c (js 0) (jp 0) (jc 0) ∗ (∃ g, rPts (F := F) c (js (0 + 1)) g) ∗ oHas m c 0 ∗ gatPts m c 0
        ∗ tri (F := F) (toGet c) ∗ qua (F := F) (toGet c) ∗ (tri (F := F) (onWay c) ∗ qua (toSend m c)))
      ⊢ Inv m c 0 := BI.Entails.refl _

set_option maxHeartbeats 1600000 in
/-- The body, piece by piece. -/
theorem wp_work (c : Dev nD) (Q : PUnit → sProp 𝕄) :
    iprop(records m K ∗ levAts L lv ∗ lin (F := F) c ∗ creds (F := F) c ∗ scr (F := F) c ∗ wSems (F := F) c ∗ wAll m c
        ∗ owing c (O₀ c) ∗ xPts m c ∗ ∃ f, (c : Thread nD τ).loc cc0_stg1_0 ↦{fullShare} f)
      ⊢ iprop(((scr (F := F) c ∗ wSems (F := F) c ∗ endSems (F := F) c ∗ wAll m c ∗ owing c 0 ∗ xPts m c
          ∗ (c : Thread nD τ).loc cc0_stg1_0 ↦{fullShare} outF m c) -∗ Q ⟨⟩) -∗ WP c (work c) Q) := by
  unfold work lin creds scr wSems endSems
  iintro ⟨#HR, #Hlev, ⟨HatB, HatS, HatV, HtB, HtS, HtV⟩, ⟨HcB, HcV⟩, ⟨Hs, ⟨%fg, Hg⟩, ⟨%fb, Hb⟩, ⟨%fr, Hr⟩⟩, ⟨Hw0, Hw1⟩, Hw, HO, Hx, ⟨%fo, Hout⟩⟩ Hk
  -- the gathering buffer in blocks, and a token for each announcement
  ihave Hg := (Entails.of_eq (gAll_eq c fg)) $$ Hg
  icases Hg with ⟨Hg, ⟨Hg0, Hg1, Hg2⟩, ⟨Hg3, Hg4, Hg5, Hg6⟩⟩
  ihave HtB := (Entails.of_eq (bigSep_seven (F := F) fun e => dutyTok ER (barCell (peer c e)) 0 e)) $$ HtB
  icases HtB with ⟨⟨Ht0, Ht1, Ht2⟩, ⟨Ht3, Ht4, Ht5, Ht6⟩⟩
  ihave HO := (Entails.of_eq (show owing (F := F) c (O₀ c) = owing c (oRecv c 7 + oBar c (6 + 1)) from rfl)) $$ HO
  iapply (wp_signalN m K c 0 6 rfl) $$ [HO Ht0 Hg6]
  · isplitr; · iexact HR
    isplitl [HO]; · iexact HO
    isplitl [Ht0]; · iexact Ht0
    iexists _; iexact Hg6
  iintro HO
  iapply (wp_signalN m K c 1 5 rfl) $$ [HO Ht1 Hg5]
  · isplitr; · iexact HR
    isplitl [HO]; · iexact HO
    isplitl [Ht1]; · iexact Ht1
    iexists _; iexact Hg5
  iintro HO
  iapply (wp_signalN m K c 2 4 rfl) $$ [HO Ht2 Hg4]
  · isplitr; · iexact HR
    isplitl [HO]; · iexact HO
    isplitl [Ht2]; · iexact Ht2
    iexists _; iexact Hg4
  iintro HO
  iapply (wp_signalN m K c 3 3 rfl) $$ [HO Ht3 Hg3]
  · isplitr; · iexact HR
    isplitl [HO]; · iexact HO
    isplitl [Ht3]; · iexact Ht3
    iexists _; iexact Hg3
  iintro HO
  iapply (wp_signalN m K c 4 2 rfl) $$ [HO Ht4 Hg2]
  · isplitr; · iexact HR
    isplitl [HO]; · iexact HO
    isplitl [Ht4]; · iexact Ht4
    iexists _; iexact Hg2
  iintro HO
  iapply (wp_signalN m K c 5 1 rfl) $$ [HO Ht5 Hg1]
  · isplitr; · iexact HR
    isplitl [HO]; · iexact HO
    isplitl [Ht5]; · iexact Ht5
    iexists _; iexact Hg1
  iintro HO
  iapply (wp_signalN m K c 6 0 rfl) $$ [HO Ht6 Hg0]
  · isplitr; · iexact HR
    isplitl [HO]; · iexact HO
    isplitl [Ht6]; · iexact Ht6
    iexists _; iexact Hg0
  iintro HO
  -- the wait for all seven
  ihave HO := (Entails.of_eq (show owing (F := F) c (oRecv c 7 + oBar c 0) = owing c (oRecv c 7) from congrArg _ (add_zero _))) $$ HO
  unfold owing
  icases HO with ⟨%W, HO⟩
  iapply (wp_barWait m K c (oRecv c 7) (above_recv c 7) W) $$ [HO HcB HatB]
  · isplitr; · iexact HR
    isplitr; · iexact Hlev
    isplitl [HO]; · iexact HO
    isplitl [HcB]; · iexact HcB
    iexact HatB
  iintro ⟨HO, HzB, Hgs⟩
  ihave HO := (show (owes (c : Thread nD τ) (oRecv c 7) (insert (SemLoc.reg barS.sem, ()) W) : sProp 𝕄) ⊢ owing c (oRecv c (6 + 1)) from by
    unfold owing; iintro H; iexists _; iexact H) $$ HO
  -- the shard narrowed, and its own rows kept
  iapply (wp_shard m c) $$ [Hx Hs]
  · isplitl [Hx]; · iexact Hx
    iexact Hs
  iintro ⟨Hx, Hs⟩
  iapply (wp_ownRows m c) $$ [Hs Hg]
  · isplitl [Hs]; · iexact Hs
    iexists _; iexact Hg
  iintro ⟨Hs, Hgat⟩
  ihave Hs := (sAll_cut m c).1 $$ Hs
  icases Hs with ⟨Hs, Hso⟩
  ihave Hs := (toSend_intro m c) $$ [Hs Hgs HtS HtV HatS]
  · isplitl [Hs]; · iexact Hs
    isplitl [Hgs]; · iexact Hgs
    isplitl [HtS]; · iexact HtS
    isplitl [HtV]; · iexact HtV
    iexact HatS
  icases Hs with ⟨⟨Hs0, Hs1, Hs2⟩, Hq⟩
  iapply (wp_sendJ m K c 0 6 rfl) $$ [HO Hs0]
  · isplitr; · iexact HR
    isplitl [HO]; · iexact HO
    iexact Hs0
  iintro ⟨HO, Hs0⟩
  iapply (wp_sendJ m K c 1 5 rfl) $$ [HO Hs1]
  · isplitr; · iexact HR
    isplitl [HO]; · iexact HO
    iexact Hs1
  iintro ⟨HO, Hs1⟩
  iapply (wp_sendJ m K c 2 4 rfl) $$ [HO Hs2]
  · isplitr; · iexact HR
    isplitl [HO]; · iexact HO
    iexact Hs2
  iintro ⟨HO, Hs2⟩
  -- the first fetches
  ihave Hi := (idle_intro m c fb) $$ [Hb Hw Hw0 Hw1]
  · isplitl [Hb]; · iexact Hb
    isplitl [Hw]; · iexact Hw
    isplitl [Hw0]; · iexact Hw0
    iexact Hw1
  icases Hi with ⟨Hi0, Hi1, Hwl⟩
  ihave Hr := (rAll_split c fr) $$ Hr
  icases Hr with ⟨Hr0, Hr1⟩
  ihave Hi0 := (show idle m c 0 ⊢ idle m c (js 0) from BI.Entails.refl _) $$ Hi0
  ihave Hi1 := (show idle m c 1 ⊢ idle m c (js 1) from BI.Entails.refl _) $$ Hi1
  ihave Hr0 := (show rPts (F := F) c 0 fr ⊢ rPts c (js 0) fr from BI.Entails.refl _) $$ Hr0
  ihave Hr1 := (show rPts (F := F) c 1 fr ⊢ rPts c (js (0 + 1)) fr from BI.Entails.refl _) $$ Hr1
  iapply (wp_fetchJ m c 0) $$ Hi0
  iintro Hf0
  iapply (wp_fetchJ m c 1) $$ Hi1
  iintro Hf1
  unfold owing
  icases HO with ⟨%W₁, HO⟩
  unfold convJ
  iapply (wp_convSlot m c (js 0) (jp 0) (jc 0) (oRecv c 4) (above_recv c 4).mono W₁) $$ [Hf0 HO Hr0]
  · isplitl [Hf0]; · iexact Hf0
    isplitl [HO]; · iexact HO
    isplitr; · iexact Hlev
    iexists _; iexact Hr0
  iintro ⟨Hi0, Hr0, HO⟩
  ihave Hi0 := (show idle m c (js 0) ⊢ idle m c (js 2) from BI.Entails.refl _) $$ Hi0
  iapply (wp_fetchJ m c 2) $$ Hi0
  iintro Hf2
  ihave Hget := (toGet_intro (F := F) c) $$ [HcV HatV]
  · isplitl [HcV]; · iexact HcV
    iexact HatV
  icases Hget with ⟨Hg1, Hg2⟩
  -- the loop
  iapply (wp_turns m K c Q _ 24 0 rfl) $$ [HO Hf1 Hf2 Hr0 Hr1 Hout Hgat Hg1 Hg2 Hs0 Hs1 Hs2 Hq]
  · isplitr; · iexact HR
    isplitr; · iexact Hlev
    iapply (inv_start m c)
    isplitl [HO]; · unfold owing; iexact HO
    isplitl [Hf1]; · iexact Hf1
    isplitl [Hf2]; · iexact Hf2
    isplitl [Hr0]; · iexact Hr0
    isplitl [Hr1]; · iexists _; iexact Hr1
    isplitl [Hout]
    · unfold oHas
      iexists fo
      isplitr
      · ipureintro
        intro p ch h
        exact absurd h (Nat.not_lt_zero _)
      iexact Hout
    isplitl [Hgat]; · iexact Hgat
    isplitl [Hg1]; · iexact Hg1
    isplitl [Hg2]; · iexact Hg2
    isplitl [Hs0 Hs1 Hs2]
    · isplitl [Hs0]; · iexact Hs0
      isplitl [Hs1]; · iexact Hs1
      iexact Hs2
    iexact Hq
  iintro HI
  ihave HI := (show Inv m c 24 ⊢ iprop(owing c (oJ c 24) ∗ idle m c 1 ∗ idle m c 0 ∗ (∃ g, rPts (F := F) c 0 g) ∗ (∃ g, rPts (F := F) c 1 g)
    ∗ oHas m c 24 ∗ gatPts m c 0 ∗ (gatPts m c 1 ∗ tri (F := F) fun e => semVal (recvCell c e) 0)
    ∗ (gatPts m c 2 ∗ qua (F := F) fun e => semVal (recvCell c e) 0) ∗ (tri (wasSent m c) ∗ qua (F := F) (onWay c)))
    from BI.Entails.refl _) $$ HI
  icases HI with ⟨HO, Hi1, Hi0, Hr0, Hr1, Hout, Hgat0, ⟨Hgat1, Hv1⟩, ⟨Hgat2, Hv2⟩, ⟨Ht, ⟨Hs3, Hs4, Hs5, Hs6⟩⟩⟩
  iapply (wp_sentJ m K c 3 _ (above_oJ c 24)) $$ [HO Hs3]
  · isplitr; · iexact HR
    isplitr; · iexact Hlev
    isplitl [HO]; · iexact HO
    iexact Hs3
  iintro ⟨HO, Hs3⟩
  iapply (wp_sentJ m K c 4 _ (above_oJ c 24)) $$ [HO Hs4]
  · isplitr; · iexact HR
    isplitr; · iexact Hlev
    isplitl [HO]; · iexact HO
    iexact Hs4
  iintro ⟨HO, Hs4⟩
  iapply (wp_sentJ m K c 5 _ (above_oJ c 24)) $$ [HO Hs5]
  · isplitr; · iexact HR
    isplitr; · iexact Hlev
    isplitl [HO]; · iexact HO
    iexact Hs5
  iintro ⟨HO, Hs5⟩
  iapply (wp_sentJ m K c 6 _ (above_oJ c 24)) $$ [HO Hs6]
  · isplitr; · iexact HR
    isplitr; · iexact Hlev
    isplitl [HO]; · iexact HO
    iexact Hs6
  iintro ⟨HO, Hs6⟩
  unfold WP
  rw [wp_ret]; imodintro
  ihave HO := (show owing (F := F) c (oJ c 24) ⊢ owing c 0 from BI.Entails.refl _) $$ HO
  iapply Hk
  ihave Hs := (wasSent_exit m c) $$ [Ht Hs3 Hs4 Hs5 Hs6]
  · isplitl [Ht]; · iexact Ht
    isplitl [Hs3]; · iexact Hs3
    isplitl [Hs4]; · iexact Hs4
    isplitl [Hs5]; · iexact Hs5
    iexact Hs6
  icases Hs with ⟨HzS, Hs⟩
  ihave Hi := (idle_exit m c fb) $$ [Hi0 Hi1 Hwl]
  · isplitl [Hi0]; · iexact Hi0
    isplitl [Hi1]; · iexact Hi1
    iexact Hwl
  icases Hi with ⟨Hb, Hw, Hw0, Hw1⟩
  isplitl [Hs Hso Hgat0 Hgat1 Hgat2 Hb Hr0 Hr1]
  · isplitl [Hs Hso]
    · iexists xsF m c
      iapply (sAll_cut m c).2
      isplitl [Hs]; · iexact Hs
      iexact Hso
    unfold gatPts
    isplitl [Hgat0 Hgat1 Hgat2]
    · iexists xgF m c
      iapply (Entails.of_eq (gAll_eq c (xgF m c)).symm)
      isplitl [Hgat0]; · iexact Hgat0
      isplitl [Hgat1]
      · iapply (Entails.of_eq (gat1 c (xgF m c))); iexact Hgat1
      iapply (Entails.of_eq (gat2 c (xgF m c))); iexact Hgat2
    isplitl [Hb]; · iexact Hb
    iapply (rAll_join c)
    isplitl [Hr0]; · iexact Hr0
    iexact Hr1
  isplitl [Hw0 Hw1]
  · isplitl [Hw0]; · iexact Hw0
    iexact Hw1
  isplitl [HzS Hv1 Hv2 HzB]
  · isplitl [HzS]; · iexact HzS
    isplitl [Hv1 Hv2]
    · iapply (Entails.of_eq (bigSep_seven (F := F) fun e => semVal (recvCell c e) 0).symm)
      isplitl [Hv1]; · iexact Hv1
      iexact Hv2
    iexact HzB
  isplitl [Hw]; · iexact Hw
  isplitl [HO]; · unfold owing; iexact HO
  isplitl [Hx]; · iexact Hx
  unfold oHas
  icases Hout with ⟨%f, %hf, Hout⟩
  rw [← outF_eq m c f hf]
  iexact Hout

end Cert.KernelIdeal.Proto

end

end
-- ==== Proof.Deal.lean ====
module

public import proofs.«01_k».proof.Proof.Body

/-! # The launch: cells, tokens and credit dealt out -/

@[expose] public section

set_option maxRecDepth 16384

noncomputable section

namespace Cert.KernelIdeal.Proto

open Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells and tokens of the protocol -/

theorem csem_injective : Function.Injective csem := by
  have h : ∀ a b : CK, csem a = csem b → a = b := by decide +kernel
  exact fun a b => h a b
theorem kcell_injective : Function.Injective kcell := fun a b h => by
  have h1 : a.1 = b.1 := congrArg (fun g : GSem nD τ sig => g.1.1) h
  exact Prod.ext h1 (csem_injective (congrArg Prod.snd h))

/-- A device's tokens as minted: its barrier's seven, its departures' and its arrivals'. -/
abbrev TK : Type := Fin 7 ⊕ (Fin 7 ⊕ Fin 7)
abbrev tkAt : TK → SemLoc sig × ℕ × Fin 7
  | .inl e => (.reg barS.sem, 0, e)
  | .inr (.inl e) => (.dma (sendSem e), 0, 0)
  | .inr (.inr e) => (.dma (recvSem e), 0, 0)
theorem tkAt_injective : Function.Injective tkAt := by
  have h : ∀ a b : TK, tkAt a = tkAt b → a = b := by decide +kernel
  exact fun a b => h a b
abbrev tokOf (cj : Dev nD × TK) : GSem nD τ sig × ℕ × Fin 7 := (((cj.1 : Thread nD τ), (tkAt cj.2).1), (tkAt cj.2).2)
theorem tokOf_injective : Function.Injective tokOf := fun a b h => by
  have h1 : a.1 = b.1 := congrArg (fun x : GSem nD τ sig × ℕ × Fin 7 => x.1.1.1) h
  have h2 : (tkAt a.2).1 = (tkAt b.2).1 := congrArg (fun x : GSem nD τ sig × ℕ × Fin 7 => x.1.2) h
  have h3 : (tkAt a.2).2 = (tkAt b.2).2 := congrArg (fun x : GSem nD τ sig × ℕ × Fin 7 => x.2) h
  exact Prod.ext h1 (tkAt_injective (Prod.ext h2 h3))

def allCells : Finset (GSem nD τ sig) := Finset.univ.map ⟨kcell, kcell_injective⟩
def allToks : Finset (GSem nD τ sig × ℕ × Fin 7) := Finset.univ.map ⟨tokOf, tokOf_injective⟩

def u₀ : UU :=
  (initOf (Pipeline.cells cfgs cellOf_inj) (Pipeline.launchToks cfgs cellOf_inj), (initOf allCells allToks, (1 : Counters)))

/-- The semaphores that are the kernel's own. -/
abbrev osem : (Fin 7 ⊕ Fin 7) ⊕ Fin 2 → SemLoc sig
  | .inl (.inl e) => .dma (sendSem e)
  | .inl (.inr e) => .dma (recvSem e)
  | .inr s => .dma (wSem s)

theorem ownSemFacts : Pipeline.OwnSemFacts cfg0.spec osem := by decide +kernel

/-! ## What each device is dealt -/

/-- A device's tokens as minted. -/
def mintToks (c : Dev nD) : sProp 𝕄 :=
  iprop((all7 (F := F) fun e => dutyTok ER (barCell c) 0 e) ∗ (all7 (F := F) fun e => dutyTok ER (sendCell c e) 0 0)
    ∗ all7 (F := F) fun e => dutyTok ER (recvCell c e) 0 0)
/-- The tokens it pays with. -/
def payToks (c : Dev nD) : sProp 𝕄 :=
  iprop((all7 (F := F) fun e => dutyTok ER (barCell (peer c e)) 0 e) ∗ (all7 (F := F) fun e => dutyTok ER (sendCell c e) 0 0)
    ∗ all7 (F := F) fun e => dutyTok ER (recvCell (peer c e) e) 0 0)

/-- The launch's share of a device. -/
def G (c : Dev nD) : sProp 𝕄 :=
  iprop((bigSep Finset.univ fun k : CK => roundState ER (Rd m) (kcell (c, k)) 0)
    ∗ (bigSep Finset.univ fun k : CK => atPos ER (kcell (c, k)) 0 ∅ 0)
    ∗ (bigSep Finset.univ fun k : CK => reached ER (kcell (c, k)) 0) ∗ mintToks (F := F) c)
/-- And once the cells are shared. -/
def G' (c : Dev nD) : sProp 𝕄 := iprop((∃ K, records m K) ∗ lin (F := F) c ∗ wSems (F := F) c)

theorem bigSep_sum' {A B : Type} [Fintype A] [Fintype B] (Φ : A ⊕ B → sProp 𝕄) : bigSep Finset.univ Φ
    = iprop((bigSep Finset.univ fun a => Φ (.inl a)) ∗ bigSep Finset.univ fun b => Φ (.inr b)) := bigSep_univ_sum Φ
theorem bigSep_unit' (Φ : Unit → sProp 𝕄) : bigSep Finset.univ Φ = Φ () := by
  rw [Finset.univ_unique, bigSep_singleton]
theorem bigSep_CK (Φ : CK → sProp 𝕄) : bigSep Finset.univ Φ
    = iprop(Φ (.inl ()) ∗ (all7 fun e => Φ (.inr (.inl e))) ∗ all7 fun e => Φ (.inr (.inr e))) := by
  rw [bigSep_sum', bigSep_unit', bigSep_sum']

theorem fund : BI.own (ER (initOf allCells allToks)) ⊢ (|==> bigSep Finset.univ (G m) : sProp 𝕄) := by
  have hX (Φ : GSem nD τ sig → sProp 𝕄) : bigSep allCells Φ
      = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => mintToks (F := F) c := by
    unfold allToks; rw [bigSep_map, bigSep_univ_prod]
    exact bigSep_congr fun c _ => by unfold mintToks; rw [bigSep_sum', bigSep_sum']; rfl
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G
  simp only [bigSep_sep']
  isplitl [Hst]; · iexact Hst
  isplitl [Hat]; · iexact Hat
  isplitl [Hr]; · iexact Hr
  iexact Htok

theorem ownSems0_eq (c : Dev nD) : (Pipeline.ownSems0 (Ix := Unit) (Name := ℕ) (U := UU) (Lvl := ℕ) (Val := Elt F) (τ := τ) osem c : sProp 𝕄)
    = iprop(((all7 (F := F) fun e => semVal (sendCell c e) 0) ∗ all7 (F := F) fun e => semVal (recvCell c e) 0) ∗ wSems (F := F) c) := by
  unfold Pipeline.ownSems0 wSems
  rw [bigSep_sum', bigSep_sum', bigSep_fin_two]
  rfl
theorem unscopedSems0_eq (c : Dev nD) : (unscopedSems0 c : sProp 𝕄) = semVal (barCell c) 0 := by
  unfold unscopedSems0; rw [bigSep_eq_bigSepL_of_eq [SemLoc.reg barS.sem] (by decide) (by decide)]; rfl

theorem sems0 (c : Dev nD) :
    iprop(Pipeline.ownSems0 (Ix := Unit) (Name := ℕ) (U := UU) (Lvl := ℕ) (Val := Elt F) (τ := τ) osem c ∗ unscopedSems0 c)
      ⊢ iprop((bigSep Finset.univ fun k : CK => semVal (kcell (c, k)) 0) ∗ wSems (F := F) c) := by
  rw [ownSems0_eq, unscopedSems0_eq, bigSep_CK]
  iintro ⟨⟨⟨HS, HV⟩, HW⟩, HB⟩
  isplitr [HW]
  · isplitl [HB]; · iexact HB
    isplitl [HS]; · iexact HS
    iexact HV
  iexact HW

/-- One device's cells become shared. -/
theorem share_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (kcell (c, k))))
          ∗ (bigSep Finset.univ fun k : CK => reached ER (kcell (c, k)) 0)
          ∗ (bigSep Finset.univ fun k : CK => atPos ER (kcell (c, k)) 0 ∅ 0) ∗ mintToks (F := F) c ∗ wSems (F := F) c) := by
  have hinv : iprop((bigSep Finset.univ fun k : CK => semVal (kcell (c, k)) 0) ∗ bigSep Finset.univ fun k : CK => roundState ER (Rd m) (kcell (c, k)) 0)
      ⊢ (|={Set.univ}=> bigSep Finset.univ fun k : CK => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  unfold G
  iintro ⟨Hos, Hus, Hst, Hat, Hr, Htok⟩
  ihave Hv := (sems0 (F := F) c) $$ [Hos Hus]
  · isplitl [Hos]; · iexact Hos
    iexact Hus
  icases Hv with ⟨Hv, HW⟩
  imod hinv $$ [Hv Hst] with HI
  · isplitl [Hv]; · iexact Hv
    iexact Hst
  imodintro
  isplitl [HI]; · iexact HI
  isplitl [Hr]; · iexact Hr
  isplitl [Hat]; · iexact Hat
  isplitl [Htok]; · iexact Htok
  iexact HW

/-- Dealing around: what is indexed by a distance goes that distance back. -/
theorem deal (Φ : Dev nD → Fin 7 → sProp 𝕄) : (bigSep Finset.univ fun c : Dev nD => all7 fun e => Φ c e)
    = bigSep Finset.univ fun c : Dev nD => all7 fun e => Φ (peer c e) e := by
  unfold all7
  rw [bigSep_univ_comm, bigSep_univ_comm fun (c : Dev nD) (e : Fin 7) => Φ (peer c e) e]
  exact bigSep_congr fun e _ => bigSep_univ_equiv (turnBy e) fun c => Φ c e

theorem toks_around : (bigSep Finset.univ fun c : Dev nD => mintToks (F := F) c) ⊢ bigSep Finset.univ fun c : Dev nD => payToks (F := F) c := by
  unfold mintToks payToks
  rw [bigSep_sep', bigSep_sep', bigSep_sep', bigSep_sep',
    deal (F := F) (fun c e => dutyTok ER (barCell c) 0 e), deal (F := F) (fun c e => dutyTok ER (recvCell c e) 0 0)]

theorem lin_intro (c : Dev nD) :
    iprop((bigSep Finset.univ fun k : CK => atPos ER (kcell (c, k)) 0 ∅ 0) ∗ payToks (F := F) c) ⊢ lin (F := F) c := by
  rw [bigSep_CK]
  unfold payToks lin
  iintro ⟨⟨H1, H2, H3⟩, H4, H5, H6⟩
  isplitl [H1]; · iexact H1
  isplitl [H2]; · iexact H2
  isplitl [H3]; · iexact H3
  isplitl [H4]; · iexact H4
  isplitl [H5]; · iexact H5
  iexact H6

theorem regroup :
    (bigSep Finset.univ fun c : Dev nD => iprop((bigSep Finset.univ fun k : CK => iprop(∃ κ : ℕ, cellInv ER (Rd m) κ (kcell (c, k))))
          ∗ (bigSep Finset.univ fun k : CK => reached ER (kcell (c, k)) 0)
          ∗ (bigSep Finset.univ fun k : CK => atPos ER (kcell (c, k)) 0 ∅ 0) ∗ mintToks (F := F) c ∗ wSems (F := F) c) : sProp 𝕄)
      ⊢ bigSep Finset.univ (G' m) := by
  rw [bigSep_sep', bigSep_sep', bigSep_sep', bigSep_sep',
    ← bigSep_univ_prod (fun ck : Dev nD × CK => iprop(∃ κ : ℕ, cellInv ER (Rd m) κ (kcell ck))),
    ← bigSep_univ_prod (fun ck : Dev nD × CK => (reached ER (kcell ck) 0 : sProp 𝕄))]
  have hlin : iprop((bigSep Finset.univ fun c : Dev nD => bigSep Finset.univ fun k : CK => atPos ER (kcell (c, k)) 0 ∅ 0)
      ∗ bigSep Finset.univ fun c : Dev nD => payToks (F := F) c) ⊢ (bigSep Finset.univ fun c : Dev nD => lin (F := F) c) := by
    rw [← bigSep_sep']
    exact bigSep_mono fun c _ => lin_intro c
  have hg (K : Dev nD × CK → ℕ) (c : Dev nD) : iprop(records m K ∗ lin (F := F) c ∗ wSems (F := F) c) ⊢ G' m c := by
    unfold G'
    iintro ⟨HR, HL, HW⟩
    isplitl [HR]; · iexists K; iexact HR
    isplitl [HL]; · iexact HL
    iexact HW
  iintro ⟨HI, #HR, Hat, Htok, HW⟩
  ihave HK := (bigSep_exists_pi Finset.univ (fun (ck : Dev nD × CK) (κ : ℕ) => (cellInv ER (Rd m) κ (kcell ck) : sProp 𝕄))) $$ HI
  icases HK with ⟨%K, #HI⟩
  ihave Htok := (toks_around (F := F)) $$ Htok
  ihave HL := hlin $$ [Hat Htok]
  · isplitl [Hat]; · iexact Hat
    iexact Htok
  iapply (bigSep_with_persistent (R := records m K) fun c _ => hg K c)
  isplitr
  · unfold records
    isplitr; · iexact HI
    iexact HR
  rw [bigSep_sep']
  isplitl [HL]; · iexact HL
  iexact HW

/-- The step all devices take together. -/
theorem glob : (bigSep Finset.univ fun c => iprop(Pipeline.ownSems0 (Ix := Unit) (Name := ℕ) (U := UU) (Lvl := ℕ) (Val := Elt F) (τ := τ) osem c
      ∗ unscopedSems0 c ∗ G m c) : sProp 𝕄)
    ⊢ |={Set.univ}=> bigSep Finset.univ (G' m) :=
  ((bigSep_mono fun c _ => share_cells m c).trans (bigSep_fupd _ _)).trans (BI.fupd_mono (regroup m))

/-! ## The credit -/

theorem oBar_at_bar (d c : Dev nD) : ∀ n : ℕ, oBar d n (barCell c) () = ∑ i ∈ Finset.range n, if peer d (ix i) = c then 1 else 0
  | 0 => rfl
  | n + 1 => by
    unfold oBar
    rw [Pi.add_apply, Finsupp.add_apply, oBar_at_bar d c n, Finset.sum_range_succ, tallyAt_apply]
    congr 1
    by_cases h : peer d (ix n) = c
    · subst h; rw [if_pos ⟨rfl, rfl⟩, if_pos rfl]
    · rw [if_neg (fun h' => h (congrArg (fun g : GSem nD τ sig => g.1.1) h'.1).symm), if_neg h]
theorem oRecv_at_bar (d c : Dev nD) : ∀ n : ℕ, oRecv d n (barCell c) () = 0
  | 0 => rfl
  | n + 1 => by
    unfold oRecv
    rw [Pi.add_apply, Finsupp.add_apply, oRecv_at_bar d c n, tallyAt_apply,
      if_neg (fun h' => by cases (congrArg Prod.snd h'.1 : SemLoc.reg barS.sem = SemLoc.dma (recvSem (ix n))))]
theorem oBar_at_recv (d c : Dev nD) (e : Fin 7) : ∀ n : ℕ, oBar d n (recvCell c e) () = 0
  | 0 => rfl
  | n + 1 => by
    unfold oBar
    rw [Pi.add_apply, Finsupp.add_apply, oBar_at_recv d c e n, tallyAt_apply,
      if_neg (fun h' => by cases (congrArg Prod.snd h'.1 : SemLoc.dma (recvSem e) = SemLoc.reg barS.sem))]
theorem recvSem_injective (e e' : Fin 7) (h : recvSem e = recvSem e') : e = e' := by
  have h' := congrArg rcvIx h
  rw [rcvIx_recv, rcvIx_recv] at h'
  exact Option.some.inj h'
theorem oRecv_at_recv (d c : Dev nD) (e : Fin 7) : ∀ n : ℕ,
    oRecv d n (recvCell c e) () = N * ∑ i ∈ Finset.range n, if ix i = e ∧ peer d e = c then 1 else 0
  | 0 => rfl
  | n + 1 => by
    unfold oRecv
    rw [Pi.add_apply, Finsupp.add_apply, oRecv_at_recv d c e n, Finset.sum_range_succ, tallyAt_apply, Nat.mul_add]
    congr 1
    by_cases h : ix n = e ∧ peer d e = c
    · obtain ⟨rfl, rfl⟩ := h
      rw [if_pos ⟨rfl, rfl⟩, if_pos ⟨rfl, rfl⟩, Nat.mul_one]
    · rw [if_neg h, Nat.mul_zero, if_neg]
      intro h'
      have h1 : c = peer d (ix n) := congrArg (fun g : GSem nD τ sig => g.1.1) h'.1
      have h2 : e = ix n := recvSem_injective _ _ (SemLoc.dma.inj (congrArg Prod.snd h'.1))
      exact h ⟨h2.symm, by rw [h2]; exact h1.symm⟩

theorem count_bar (c : Dev nD) : (∑ d : Dev nD, ∑ i ∈ Finset.range 7, if peer d (ix i) = c then 1 else 0) = 7 := by
  revert c; decide +kernel
theorem count_recv (c : Dev nD) (e : Fin 7) :
    (∑ d : Dev nD, ∑ i ∈ Finset.range 7, if ix i = e ∧ peer d e = c then 1 else 0) = 1 := by
  revert c e; decide +kernel

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, ← count_bar c]
  refine Finset.sum_congr rfl fun d _ => ?_
  unfold O₀
  rw [Pi.add_apply, Finsupp.add_apply, oRecv_at_bar, oBar_at_bar, Nat.zero_add]
theorem launch_recv (c : Dev nD) (e : Fin 7) :
    tallyOn (recvCell c e) (launchCredit (Pipeline.owing O₀) 0 (recvCell c e)) = (tallyAt (recvCell c e) () N : CellTallies nD τ sig Unit) := by
  unfold tallyAt; refine congrArg _ (Finsupp.ext fun u => ?_); cases u
  rw [Pipeline.launchCredit_owing, Finsupp.single_eq_same]
  refine Eq.trans ?_ ((congrArg (N * ·) (count_recv c e)).trans (Nat.mul_one N))
  rw [Finset.mul_sum]
  refine Finset.sum_congr rfl fun d _ => ?_
  unfold O₀
  rw [Pi.add_apply, Finsupp.add_apply, oBar_at_recv, oRecv_at_recv, Nat.add_zero]

/-- The semaphores credited at launch. -/
abbrev crd : Unit ⊕ Fin 7 → SemLoc sig
  | .inl _ => .reg barS.sem
  | .inr e => .dma (recvSem e)
theorem crd_injective : Function.Injective crd := by
  have h : ∀ a b : Unit ⊕ Fin 7, crd a = crd b → a = b := by decide +kernel
  exact fun a b => h a b

theorem creds_intro (c : Dev nD) : (Pipeline.launchCred O₀ c : sProp 𝕄) ⊢ creds (F := F) c := by
  have h : (bigSep (Finset.univ.image crd) fun sm : SemLoc sig =>
      (cred (tallyOn ((c : Thread nD τ), sm) (launchCredit (Pipeline.owing O₀) 0 ((c : Thread nD τ), sm))) : sProp 𝕄)) = creds (F := F) c := by
    unfold creds all7
    rw [bigSep_image_of_injOn (crd_injective.injOn), bigSep_sum', bigSep_unit', launch_bar]
    refine congrArg (fun P : sProp 𝕄 => iprop(cred (tallyAt (barCell c) () 7) ∗ P)) (bigSep_congr fun e _ => ?_)
    rw [launch_recv]
  rw [← h]
  exact bigSep_subset (Finset.subset_univ _)

end Cert.KernelIdeal.Proto

end

end
-- ==== Proof.Launch.lean ====
module

public import proofs.«01_k».proof.Proof.Deal
public import Idealize.ShloMosaic.Lib.Pipeline.CollectiveSegs

/-! # The run of the whole mesh -/

@[expose] public section

set_option maxRecDepth 16384

noncomputable section

namespace Cert.KernelIdeal.Proto

open Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The one point of each device -/

/-- What a device's body starts from, beside its scratch buffers. -/
def start (c : Dev nD) : sProp 𝕄 := iprop(G' m c ∗ creds (F := F) c ∗ levAts L lv ∗ wAll m c)
def Φ₀ (c : Dev nD) : sProp 𝕄 := iprop(start m c ∗ scr (F := F) c)
def Φ₁ (c : Dev nD) : sProp 𝕄 := iprop(scr (F := F) c ∗ wSems (F := F) c ∗ endSems (F := F) c ∗ wAll m c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outF m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_x (t : Fin cfg0.N) : (cfg0.win (0 : Fin 2)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
def bodyPost (c : Dev nD) : sProp 𝕄 :=
  iprop(Φ₁ m c ∗ (dats m 0 c).owesAt () t0_0.succ ∗ stg c cc0_stg0_0 (xstg m c) ∗ stg c cc0_stg1_0 (outF m c))

/-- The body from its obligation's state before to its state after. -/
theorem sound_body (c : Dev nD) : bodyPre m c ⊢ WP c body fun _ => bodyPost m c := by
  unfold bodyPre Φ₀ start G' body Dat.owesAt Pipeline.owesWithin
  iintro ⟨⟨⟨⟨⟨%K, #HR⟩, HL, Hws⟩, Hcr, #Hlev, Hw⟩, Hscr⟩, ⟨%W, %hW, HO⟩, ⟨%d0, %g0, %hg0, Hx⟩, ⟨%d1, %g1, %hg1, Hout⟩⟩
  have hx : g0 = xstg m c := by rw [hg0]; unfold Dat.before; rw [if_pos (fetch_x t0_0)]; rfl
  subst hx
  rw [show (dats m 0 c).owed t0_0.castSucc = O₀ c from rfl]
  unfold WP
  simp only [wp_deviceId]
  iapply (wp_work m K c fun _ => bodyPost m c) $$ [HL Hws Hcr Hw Hscr HO Hx Hout]
  · isplitr; · iexact HR
    isplitr; · iexact Hlev
    isplitl [HL]; · iexact HL
    isplitl [Hcr]; · iexact Hcr
    isplitl [Hscr]; · iexact Hscr
    isplitl [Hws]; · iexact Hws
    isplitl [Hw]; · iexact Hw
    isplitl [HO]; · unfold owing; iexists W; iexact HO
    isplitl [Hx]; · unfold xPts; iexact Hx
    iexists g1; iexact Hout
  iintro ⟨Hscr, Hws, Hes, Hw, HO, Hx, Hout⟩
  unfold bodyPost Φ₁ Dat.owesAt Pipeline.owesWithin owing xPts
  rw [show (dats m 0 c).owed t0_0.succ = 0 from rfl]
  icases HO with ⟨%W', HO⟩
  isplitl [Hscr Hws Hes Hw]
  · isplitl [Hscr]; · iexact Hscr
    isplitl [Hws]; · iexact Hws
    isplitl [Hes]; · iexact Hes
    iexact Hw
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ WP c (bodyAt0 (F := F) t0_0) fun _ => bodyPost m c
  rw [body_eq]
  exact sound_body m c

/-! ## The launch theorem's conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hw, Hlev, Hcr, -, HG⟩
  ihave Hc := (creds_intro (F := F) c) $$ Hcr
  imodintro
  unfold start wAll
  isplitl
  · isplitl [HG]; · iexact HG
    isplitl [Hc]; · iexact Hc
    isplitl [Hlev]; · iexact Hlev
    iexact Hw
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr sAll gAll bAll rAll
  iintro ⟨Hs, -, Hr⟩
  isplitl [Hs]; · iexact Hs
  iexact Hr

/-- What a device hands back. -/
def Yd (c : Dev nD) : sProp 𝕄 := iprop(unscopedSems0 c ∗ wAll m c)

theorem phi1_exit (c : Dev nD) :
    (dats m 0 c).Φ (Fin.last cfg0.N) ⊢ iprop(Yd m c ∗ Pipeline.ownSems0 osem c ∗ Pipeline.scopedRest cfg0.spec c) := by
  rw [show (dats m 0 c).Φ (Fin.last cfg0.N) = Φ₁ m c from rfl, scopedRest0_eq, ownSems0_eq]
  unfold Yd
  rw [unscopedSems0_eq]
  unfold Φ₁ endSems scr sAll gAll bAll rAll
  iintro ⟨Hr, HW, ⟨HzS, HzV, HzB⟩, Hw⟩
  isplitl [HzB Hw]
  · isplitl [HzB]; · iexact HzB
    iexact Hw
  isplitl [HzS HzV HW]
  · isplitl [HzS HzV]
    · isplitl [HzS]; · iexact HzS
      iexact HzV
    iexact HW
  iexact Hr

theorem stage_low (w : Fin cfg0.W) (s : Fin (cfg0.win w).nbuf) : rcvIx ((cfg0.win w).sem s) = none := by
  revert w s; decide +kernel

theorem waits (c : Dev nD) : (levAts L lv : sProp 𝕄) ⊢ Pipeline.cellsWaits cfgs (dats m) () 0 c :=
  Pipeline.cellsWaits_intro cfgs (dats m) () 0 c fun w s t =>
    mayWait c _ 0 (lv_low c _ (stage_low w s)) _ (by
      rcases t with ⟨_ | _, ht⟩
      · exact above_O₀ c
      · exact above_zero 0)

/-! ## The run -/

/-- What a window's array holds after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg1) = wF m c

/-- Reading the handed-back semaphores and weights off the final state. -/
theorem read_end (c : Dev nD) (s' : Phys nD τ sig (Elt F)) :
    iprop(Yd m c ∗ emp ∗ SI s') ⊢ |={Set.univ}=> iprop(⌜(∀ sm : SemLoc sig, sm.isScoped .tc = false → s'.mem.sem ((c.tc : Thread nD τ), sm) = 0)
      ∧ s'.mem.mem ((c : Thread nD τ).loc main_arg1) = wF m c⌝ ∗ (SI s' : sProp 𝕄)) := by
  unfold Yd wAll
  iintro ⟨⟨Hu, Hw⟩, -, HSI⟩
  ihave H := (show iprop(((c : Thread nD τ).loc main_arg1 ↦{fullShare} wF m c) ∗ SI s')
      ⊢ (iprop(⌜s'.mem.mem ((c : Thread nD τ).loc main_arg1) = wF m c⌝ ∗ SI s') : sProp 𝕄) from by
    iintro ⟨H, HS⟩
    ihave %h := (SI_pointsTo_agree (st := s') (ℓ := (c : Thread nD τ).loc main_arg1) (I := Finset.univ) (q := fullShare) (f := wF m c)) $$ [H HS]
    · isplitl [HS]; · iexact HS
      iexact H
    isplitr; · ipureintro; exact funext fun i => h i (Finset.mem_univ i)
    iexact HS) $$ [Hw HSI]
  · isplitl [Hw]; · iexact Hw
    iexact HSI
  icases H with ⟨%hw, HSI⟩
  imod (Pipeline.unscopedSems0_read (X := unscopedSems0 c) (c := c) fupd_intro s') $$ [Hu HSI] with ⟨%hu, HSI⟩
  · isplitl [Hu]; · iexact Hu
    iexact HSI
  imodintro
  isplitr; · ipureintro; exact ⟨hu, hw⟩
  iexact HSI

set_option maxRecDepth 16384 in
/-- Over any float values, from any memory with every counter at zero: every fair run of all eight devices ends, each
    device's result array holding the computed contents, its arguments unchanged, every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_eq m) (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (show (BI.own (embR (initOf allCells allToks, (1 : Counters))) : sProp 𝕄) ⊢ BI.own (ER (initOf allCells allToks)) from BI.Entails.refl _) $$ HX
      imod (fund m) $$ HX with HG
      imodintro
      isplitl [HP]; · iexact HP
      iexact HG)
    (hglob := glob m)
    (hA := fun _ _ => rfl) (hpf := fun _ k => k.elim0)
    (X := start m) (Y := Yd m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = wF m c)
    (hY := read_end m)
    (hQ := fun _ h hs => ⟨fun c => ⟨(h c).1, (h c).2.2.2⟩, sem_eq_zero hs fun c => (h c).2.2.1⟩)

end Cert.KernelIdeal.Proto

end

end
-- ==== Proof.Value.lean ====
module

public import proofs.«01_k».proof.Proof.Launch
public import proofs.«01_k».proof.Proof.Gen.ReferenceIdeal.Run
public import Idealize.ShloMosaic.Lib.MatmulPlain
public import Idealize.ShloMosaic.Lib.StackMember
public import Idealize.ShloMosaic.Lib.Layout

/-! # What the mesh computes

Over the extended reals: every device ends with its own block of rows of the clipped product. -/

@[expose] public section

set_option maxRecDepth 16384

noncomputable section

namespace Cert.KernelIdeal.Proto

open Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The arrays at the end, for any float values -/

theorem finalA_x (c : Dev nD) : finalA m c 0 = m ((c : Thread nD τ).loc main_arg0) :=
  (dats (F := F) m 0 c).arrAt_in (0 : Fin 2) rfl _

/-- The one block of the activations is the whole shard. -/
theorem xstg_apply (c : Dev nD) (y : S4096x512.Idx) :
    (xstg m c : S4096x512.Idx → Elt F .f32) y = (m ((c : Thread nD τ).loc main_arg0) : S4096x512.Idx → Elt F .f32) y := by
  refine congrArg (m ((c : Thread nD τ).loc main_arg0) : S4096x512.Idx → Elt F .f32) (funext fun a => Fin.ext ?_)
  fin_cases a
  · show 0 + 1 * (y 0).val = (y 0).val
    omega
  · show 0 + 1 * (y 1).val = (y 1).val
    omega

/-- The one block of the result is the whole buffer. -/
theorem oblk_emb (t : Fin cfg0.N) (y : S512x8192.Idx) : ((cfg0.win (1 : Fin 2)).blk t).view.emb y = y := by
  rw [fin_N0 t]
  refine funext fun a => Fin.ext ?_
  fin_cases a
  · show 0 + 1 * (y 0).val = (y 0).val
    omega
  · show 0 + 1 * (y 1).val = (y 1).val
    omega

theorem finalA_out (c : Dev nD) : finalA m c 1 = outF m c := by
  refine (dats (F := F) m 0 c).arrAt_eq_of_cover (1 : Fin 2) (outF m c) (fun t _ => ?_) fun i => ⟨t0_0, flush0_1 _, ?_⟩
  · funext y
    exact (congrArg (outF m c) (oblk_emb t y)).symm
  · exact Finset.mem_map.mpr ⟨i, Finset.mem_univ _, oblk_emb t0_0 i⟩

/-! ## The contraction, over the extended reals -/

section Ideal

variable (M : (ℓ : Loc nD τ sig) → Buf (Elt Ideal) ℓ)
variable (A : FVec Ideal ⟨2, ![4096, 4096]⟩ .f32) (B : FVec Ideal ⟨2, ![4096, 8192]⟩ .f32)

/-- Which entry of the contraction a device takes as its `n`-th. -/
def ord (c : Dev nD) (n : ℕ) : Fin 4096 :=
  ⟨512 * (src c (n / 512)).val + n % 512,
    by have := (src c (n / 512)).isLt; have := Nat.mod_lt n (by decide : 0 < 512); simp only [nD] at *; omega⟩

theorem src_src (c : Dev nD) (b : Fin 8) : (src c (src c b.val).val).val = b.val := by revert c b; decide

theorem ord_ord (c : Dev nD) (n : Fin 4096) : ord c (ord c n.val).val = n := by
  have hn := n.isLt
  have hb := src_src c ⟨n.val / 512, by omega⟩
  have hm := Nat.mod_lt n.val (by decide : 0 < 512)
  refine Fin.ext ?_
  show 512 * (src c ((512 * (src c (n.val / 512)).val + n.val % 512) / 512)).val
    + (512 * (src c (n.val / 512)).val + n.val % 512) % 512 = n.val
  rw [show (512 * (src c (n.val / 512)).val + n.val % 512) / 512 = (src c (n.val / 512)).val from by omega,
    show (512 * (src c (n.val / 512)).val + n.val % 512) % 512 = n.val % 512 from by omega]
  have hb' : (src c (src c (n.val / 512)).val).val = n.val / 512 := hb
  omega

/-- Row `i` of device `c`'s block of rows. -/
abbrev row (c : Dev nD) (i : Fin 512) : Fin 4096 :=
  ⟨512 * c.val + i.val, by have := c.isLt; have := i.isLt; simp only [nD] at *; omega⟩
/-- Column `j` of a chunk. -/
abbrev col (ch : Fin 8) (j : Fin 1024) : Fin 8192 :=
  ⟨1024 * ch.val + j.val, by have := ch.isLt; have := j.isLt; omega⟩

/-- The `n`-th product that device `c` adds up. -/
def term (c : Dev nD) (ch : Fin 8) (i : Fin 512) (j : Fin 1024) (n : ℕ) : EReal :=
  A (ix2 (row c i) (ord c n)) * B (ix2 (ord c n) (col ch j))

/-- The devices hold the whole arrays: the activations in blocks of columns, the weights whole. -/
def Held : Prop := ∀ c : Dev nD,
  (M ((c : Thread nD τ).loc main_arg0) = Layout.block ⟨2, ![4096, 512]⟩ ⟨2, ![4096, 4096]⟩ 1 8 c A)
    ∧ M ((c : Thread nD τ).loc main_arg1) = B

variable {M A B}

theorem Held.x (H : Held M A B) (c : Dev nD) (r : Fin 4096) (k : Fin 512) :
    (xsF M c : S4096x512.Idx → EReal) (ix2 r k)
      = A (ix2 r ⟨512 * c.val + k.val, by have := c.isLt; have := k.isLt; simp only [nD] at *; omega⟩) := by
  have hp : (xsF M c : S4096x512.Idx → EReal) = (xstg M c : S4096x512.Idx → EReal) := by
    unfold xsF k0_pay1
    exact (shapeCast_self _ _).trans (shapeCast_self (s := S4096x512) (xstg M c) _)
  rw [hp]
  refine (xstg_apply M c (ix2 r k)).trans ?_
  refine (congrFun (H c).1 (ix2 r k)).trans ?_
  refine congrArg A (funext fun a => Fin.ext ?_)
  fin_cases a
  · rfl
  · show c.val * 512 + k.val = 512 * c.val + k.val
    omega

/-- A phase's gathered rows at an index. -/
theorem Held.gathered (H : Held M A B) (c : Dev nD) (p : Fin 3) (i : Fin 512) (k : Fin (KK p)) :
    (xv M c p : (SX p).Idx → EReal) (ix2 i k) = A (ix2 (row c i) (ord c (K0 p + k.val))) := by
  refine Eq.trans ?_ (H.x (src c ((K0 p + k.val) / 512)) (row c i) ⟨(K0 p + k.val) % 512, Nat.mod_lt _ (by decide)⟩)
  have h0 : ((gatR p).emb (ix2 i k) 0).val = i.val := by
    rw [Rect.emb_apply]; show 0 + 1 * i.val = i.val; omega
  have h1 : ((gatR p).emb (ix2 i k) 1).val = K0 p + k.val := by
    rw [Rect.emb_apply]; show K0 p + 1 * k.val = K0 p + k.val; omega
  show (xsF M (src c (((gatR p).emb (ix2 i k) 1).val / 512)) : S4096x512.Idx → EReal)
      (ix2 ⟨512 * c.val + ((gatR p).emb (ix2 i k) 0).val, _⟩ ⟨((gatR p).emb (ix2 i k) 1).val % 512, _⟩) = _
  simp only [h0, h1]

theorem K0_eq (p : Fin 3) : K0 p = 512 * b0 p := by revert p; decide

/-- A phase's narrowed weights at an index. -/
theorem Held.weights (H : Held M A B) (c : Dev nD) (s : Fin 2) (p : Fin 3) (ch : Fin 8) (k : Fin (KK p)) (j : Fin 1024) :
    (shapeCast (SK p) (wv M c s p ch) (casts_WK p) : (SK p).Idx → EReal) (ix2 k j) = B (ix2 (ord c (K0 p + k.val)) (col ch j)) := by
  have hy : Shape.reshapeEquiv (casts_WK p) (ix2 k j) = (ix3 0 k j : (SW p).Idx) :=
    Shape.reshapeEquiv_eq_of_rowMajor _ (by
      rw [Shape.rowMajor_val_three, Shape.rowMajor_val_two]
      show (0 * KK p + k.val) * 1024 + j.val = k.val * 1024 + j.val
      omega)
  have hz : Shape.reshapeEquiv (casts_KW p) (ix3 0 k j) = (ix2 k j : (SK p).Idx) :=
    Shape.reshapeEquiv_eq_of_rowMajor _ (by
      rw [Shape.rowMajor_val_three, Shape.rowMajor_val_two]
      show k.val * 1024 + j.val = (0 * KK p + k.val) * 1024 + j.val
      omega)
  have h1 : ((slotR s p).emb (ix3 0 k j) 1).val = k.val := by
    rw [Rect.emb_apply]; show 0 + 1 * k.val = k.val; omega
  have h2 : ((slotR s p).emb (ix3 0 k j) 2).val = j.val := by
    rw [Rect.emb_apply]; show 0 + 1 * j.val = j.val; omega
  have hd : b0 p + k.val / 512 = (K0 p + k.val) / 512 := by have := K0_eq p; omega
  have hr : k.val % 512 = (K0 p + k.val) % 512 := by have := K0_eq p; omega
  show (bM.view.readAt (Elt Ideal) (slotR s p).toLoadRect (wbF M c p ch) : (SW p).Idx → EReal)
    (Shape.reshapeEquiv (casts_WK p) (Shape.reshapeEquiv (casts_KW p) (Shape.reshapeEquiv (casts_WK p) (ix2 k j)))) = _
  rw [hy, hz, hy]
  show (wF M c : S4096x8192.Idx → EReal)
      (ix2 ⟨512 * (src c (b0 p + ((slotR s p).emb (ix3 0 k j) 1).val / 512)).val + ((slotR s p).emb (ix3 0 k j) 1).val % 512, _⟩
        ⟨1024 * ch.val + ((slotR s p).emb (ix3 0 k j) 2).val, _⟩) = _
  simp only [h1, h2, hd, hr]
  exact congrFun (H c).2 _

/-- A phase's product at an index. -/
theorem Held.prod (H : Held M A B) (c : Dev nD) (s : Fin 2) (p : Fin 3) (ch : Fin 8) (i : Fin 512) (j : Fin 1024) :
    (prod p (xv M c p) (wv M c s p ch) : S512x1024.Idx → EReal) (ix2 i j)
      = ∑ k ∈ Finset.range (KK p), term A B c ch i j (K0 p + k) := by
  refine (Ideal.matmul_plain_apply (M := 512) (K := KK p) (N := 1024) none (xv M c p)
    (shapeCast (SK p) (wv M c s p ch) (casts_WK p)) (constant S512x1024 .f32 0#32) i j).trans ?_
  rw [show (constant S512x1024 .f32 0#32 : FVec Ideal S512x1024 .f32) (ix2 i j) = (0 : EReal) from Ideal.ofBits_zero_f32, zero_add,
    Finset.sum_range]
  refine Finset.sum_congr rfl fun k _ => ?_
  rw [H.gathered c p i k, H.weights c s p ch k j]
  rfl

/-- The three phases together add up every product once. -/
theorem sum_phases (T : ℕ → EReal) :
    (∑ k ∈ Finset.range (KK 0), T (K0 0 + k)) + (∑ k ∈ Finset.range (KK 1), T (K0 1 + k)) + (∑ k ∈ Finset.range (KK 2), T (K0 2 + k))
      = ∑ k ∈ Finset.range 4096, T k := by
  have h1 := Finset.sum_range_add T 512 1536
  have h2 := Finset.sum_range_add T 2048 2048
  show (∑ k ∈ Finset.range 512, T (0 + k)) + (∑ k ∈ Finset.range 1536, T (512 + k)) + (∑ k ∈ Finset.range 2048, T (2048 + k)) = _
  simp only [Nat.zero_add]
  rw [← h1]
  exact h2.symm

/-- The order in which a device takes the products does not matter. -/
theorem sum_ord (c : Dev nD) (ch : Fin 8) (i : Fin 512) (j : Fin 1024) :
    ∑ k ∈ Finset.range 4096, term A B c ch i j k = ∑ n : Fin 4096, A (ix2 (row c i) n) * B (ix2 n (col ch j)) := by
  rw [Finset.sum_range]
  exact Equiv.sum_comp (Function.Involutive.toPerm (fun n : Fin 4096 => ord c n.val) (ord_ord c))
    (fun n => A (ix2 (row c i) n) * B (ix2 n (col ch j)))

/-- What a device's chunk holds in the end. -/
theorem Held.chunk (H : Held M A B) (c : Dev nD) (ch : Fin 8) (i : Fin 512) (j : Fin 1024) :
    (accP M c ch 2 : S512x1024.Idx → EReal) (ix2 i j)
      = max (∑ n : Fin 4096, A (ix2 (row c i) n) * B (ix2 n (col ch j))) 0 := by
  rw [← sum_ord, ← sum_phases, ← H.prod c ⟨ch.val % 2, Nat.mod_lt _ (by decide)⟩ 0 ch i j,
    ← H.prod c ⟨ch.val % 2, Nat.mod_lt _ (by decide)⟩ 1 ch i j, ← H.prod c ⟨ch.val % 2, Nat.mod_lt _ (by decide)⟩ 2 ch i j]
  unfold accP stageN stage0
  rw [shapeCast_self, shapeCast_self]
  refine congrArg (max _) ?_
  exact Ideal.ofBits_zero_f32

/-! ## The reference's value -/

/-- The whole result: the product of the whole arrays, clipped at zero. -/
def whole (A : FVec Ideal ⟨2, ![4096, 4096]⟩ .f32) (B : FVec Ideal ⟨2, ![4096, 8192]⟩ .f32) : FVec Ideal ⟨2, ![4096, 8192]⟩ .bf16 :=
  fun y => max (∑ n : Fin 4096, A (ix2 (y 0) n) * B (ix2 n (y 1))) 0

/-- Every device ends with its own block of rows. -/
theorem Held.out (H : Held M A B) (c : Dev nD) :
    (outF M c : S512x8192.Idx → EReal) = Layout.block ⟨2, ![512, 8192]⟩ ⟨2, ![4096, 8192]⟩ 0 8 c (whole A B) := by
  funext y
  have h0 := idx2_lt0 (n0 := 512) (n1 := 8192) y
  have h1 := idx2_lt1 (n0 := 512) (n1 := 8192) y
  refine (H.chunk c ⟨(y 1).val / 1024, by omega⟩ ⟨(y 0).val, h0⟩ ⟨(y 1).val % 1024, Nat.mod_lt _ (by decide)⟩).trans ?_
  rw [Layout.block_apply]
  unfold whole
  refine congrArg (fun S : EReal => max S 0) (Finset.sum_congr rfl fun n _ => ?_)
  refine congrArg₂ (fun u v : EReal => u * v) (congrArg A (congrArg (fun r => ix2 r n) (Fin.ext ?_)))
    (congrArg B (congrArg (fun l => ix2 n l) (Fin.ext ?_)))
  · show 512 * c.val + (y 0).val = c.val * 512 + (y 0).val
    omega
  · show 1024 * ((y 1).val / 1024) + (y 1).val % 1024 = (y 1).val
    omega

end Ideal

end Cert.KernelIdeal.Proto

namespace Cert.ReferenceIdeal.Value

open Cert.ReferenceIdeal Cert.ReferenceIdeal.Gen Idealize.ShloMosaic Idealize.ShloMosaic.ValueIdx

/-- The reference's composed term is that result. -/
theorem value (A : FVec Ideal S4096x4096 .f32) (B : FVec Ideal S4096x8192 .f32) :
    (truncf .bf16 (maximumf (extf .f32 (truncf .bf16 (Host.dotGeneral dot_S4096x4096_S4096x8192_S4096x8192_1_0_0_1_n_n none
        (truncf .bf16 A bitsLt_bf16_f32) (truncf .bf16 B bitsLt_bf16_f32)) bitsLt_bf16_f32) bitsLt_bf16_f32)
      (broadcastInDim S4096x8192 ![] bcast_S_S4096x8192 (constant (F := Ideal) S_ .f32 0x00000000#32))) bitsLt_bf16_f32
        : FVec Ideal S4096x8192 .bf16)
      = Cert.KernelIdeal.Proto.whole A B := by
  funext y
  refine congrArg₂ (fun u v : EReal => max u v) ?_ Ideal.ofBits_zero_f32
  refine (congrArg _ (eq_ix2 (n0 := 4096) (n1 := 8192) y)).trans ?_
  exact StackMember.dotGeneral_plain_apply (m := 4096) (k := 4096) (n := 8192) none (A : FVec Ideal ⟨2, ![4096, 4096]⟩ .bf16)
    (B : FVec Ideal ⟨2, ![4096, 8192]⟩ .bf16) (y 0) (y 1)

end Cert.ReferenceIdeal.Value

end

end
-- ==== Proof.lean ====
/- The claim, from the run of the whole mesh (Proof/Launch.lean) and the value of what it leaves (Proof/Value.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Launch
public import proofs.«01_k».proof.Proof.Value

@[expose] public section

noncomputable section

namespace Cert.Proof

open Idealize.ShloMosaic Idealize.SL.Sem
open Cert.KernelIdeal.Proto (run_main finalA_x finalA_out)

theorem frame_kernelIdeal : Cert.quiescent_KernelIdeal := fun m ρ _ =>
  (θ_run Cert.KernelIdeal.defs _ _).mono
    (fun _ h => ⟨fun c => ⟨((h.1 c).1 0).trans (finalA_x m c), (h.1 c).2⟩, h.2⟩) (run_main (F := Ideal) m ρ)

section Same

variable {F : FTy → Type} [FloatOps F]

local instance : Cert.Kernel.Facts := Cert.Kernel.Gen.facts
local instance : Cert.KernelIdeal.Facts := Cert.KernelIdeal.Gen.facts

/-- The two programs' bodies are one text. -/
theorem body_same : Cert.Kernel.cc0_body (F := F) = Cert.KernelIdeal.cc0_body (F := F) := rfl

theorem bodies_same : Cert.Kernel.defs₀ (F := F) = Cert.KernelIdeal.defs₀ (F := F) := by
  refine congrArg (Defs.onTc (nD := Cert.Kernel.nD) (τ := Cert.Kernel.τ) (sig := Cert.Kernel.sig) (Val := Elt F)
    (Λ := Cert.Kernel.Λ₀)) (funext fun l => funext fun x => ?_)
  match l, x with
  | 0, (t, s) => exact rfl

theorem defs_same : Cert.Kernel.defs (F := F) = Cert.KernelIdeal.defs (F := F) :=
  congrArg (Pipeline.defs (Cert.Kernel.pcfgs (F := F))) bodies_same

end Same

/-- The kernel's run is the ideal program's, read at machine words. -/
theorem frame_kernel : Cert.quiescent_Kernel := fun m ρ _ => by
  rw [defs_same]
  exact (θ_run Cert.KernelIdeal.defs (onTc Cert.KernelIdeal.main) (Cert.KernelIdeal.Proto.s₀ m ρ)).mono
    (fun _ h => ⟨fun c => ⟨((h.1 c).1 0).trans (finalA_x m c), (h.1 c).2⟩, h.2⟩) (run_main (F := Bits) m ρ)

theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

theorem value : Cert.algebraic_KernelIdeal_ReferenceIdeal := fun m ρ m' ρ' _ H =>
  ⟨Cert.KernelIdeal.Proto.whole (m' (((0 : Dev Cert.ReferenceIdeal.nD).tc : Thread _ _).loc Cert.ReferenceIdeal.main_arg0))
      (m' (((0 : Dev Cert.ReferenceIdeal.nD).tc : Thread _ _).loc Cert.ReferenceIdeal.main_arg1)),
    (θ_run Cert.KernelIdeal.defs _ _).mono
      (fun _ h c => ⟨(((h.1 c).1 1).trans (finalA_out m c)).trans (Cert.KernelIdeal.Proto.Held.out H c),
        ((h.1 c).1 0).trans (finalA_x m c), (h.1 c).2⟩) (run_main (F := Ideal) m ρ),
    (θ_run Cert.ReferenceIdeal.defs _ _).mono
      (fun _ h => ⟨(h 0).1.trans (Cert.ReferenceIdeal.Value.value _ _), (h 0).2⟩)
      (Cert.ReferenceIdeal.Value.run m' ρ')⟩

theorem claim : Cert.Claim := ⟨Cert.Kernel.Gen.facts, Cert.KernelIdeal.Gen.facts, Cert.ReferenceIdeal.Gen.facts,
  frame_kernel, frame_kernelIdeal, frame_reference, trivial, value⟩

end Cert.Proof

end
